-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_scores_separate_2 [hPre_scores_separate_2 : Cert.Pre_scores_separate_2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_scores_separate_2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_scores_separate_2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_scores_separate_2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_scores_separate_2 [hPre_scores_separate_2 : Cert.Pre_scores_separate_2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_scores_separate_2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_scores_separate_2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_scores_separate_2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def Pre_ReferenceHIdeal (m : (ℓ : Loc Cert.ReferenceHIdeal.nD Cert.ReferenceHIdeal.τ Cert.ReferenceHIdeal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_scores_separate_2 [hKernel2Ideal : Cert.Kernel2Ideal.Facts] [hPre_scores_separate_2 : Cert.Pre_scores_separate_2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_scores_separate_2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_scores_separate_2 [hReference2Ideal : Cert.Reference2Ideal.Facts] [hPre_scores_separate_2 : Cert.Pre_scores_separate_2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_scores_separate_2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1)
      ∧ r.2.mem ((c.tc : Thread Cert.KernelH.nD Cert.KernelH.τ).loc Cert.KernelH.main_arg2) = m ((c.tc : Thread Cert.KernelH.nD Cert.KernelH.τ).loc Cert.KernelH.main_arg2)
      ∧ r.2.mem ((c.tc : Thread Cert.KernelH.nD Cert.KernelH.τ).loc Cert.KernelH.main_arg3) = m ((c.tc : Thread Cert.KernelH.nD Cert.KernelH.τ).loc Cert.KernelH.main_arg3)
      ∧ r.2.mem ((c.tc : Thread Cert.KernelH.nD Cert.KernelH.τ).loc Cert.KernelH.main_arg4) = m ((c.tc : Thread Cert.KernelH.nD Cert.KernelH.τ).loc Cert.KernelH.main_arg4)
      ∧ r.2.mem ((c.tc : Thread Cert.KernelH.nD Cert.KernelH.τ).loc Cert.KernelH.main_arg5) = m ((c.tc : Thread Cert.KernelH.nD Cert.KernelH.τ).loc Cert.KernelH.main_arg5)
      ∧ r.2.mem ((c.tc : Thread Cert.KernelH.nD Cert.KernelH.τ).loc Cert.KernelH.main_arg6) = m ((c.tc : Thread Cert.KernelH.nD Cert.KernelH.τ).loc Cert.KernelH.main_arg6)
      ∧ r.2.mem ((c.tc : Thread Cert.KernelH.nD Cert.KernelH.τ).loc Cert.KernelH.main_arg7) = m ((c.tc : Thread Cert.KernelH.nD Cert.KernelH.τ).loc Cert.KernelH.main_arg7)
      ∧ r.2.mem ((c.tc : Thread Cert.KernelH.nD Cert.KernelH.τ).loc Cert.KernelH.main_arg8) = m ((c.tc : Thread Cert.KernelH.nD Cert.KernelH.τ).loc Cert.KernelH.main_arg8))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
      ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
      ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
      ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4)
      ∧ r.2.mem ((c.tc : Thread Cert.KernelHIdeal.nD Cert.KernelHIdeal.τ).loc Cert.KernelHIdeal.main_arg5) = m ((c.tc : Thread Cert.KernelHIdeal.nD Cert.KernelHIdeal.τ).loc Cert.KernelHIdeal.main_arg5)
      ∧ r.2.mem ((c.tc : Thread Cert.KernelHIdeal.nD Cert.KernelHIdeal.τ).loc Cert.KernelHIdeal.main_arg6) = m ((c.tc : Thread Cert.KernelHIdeal.nD Cert.KernelHIdeal.τ).loc Cert.KernelHIdeal.main_arg6)
      ∧ r.2.mem ((c.tc : Thread Cert.KernelHIdeal.nD Cert.KernelHIdeal.τ).loc Cert.KernelHIdeal.main_arg7) = m ((c.tc : Thread Cert.KernelHIdeal.nD Cert.KernelHIdeal.τ).loc Cert.KernelHIdeal.main_arg7)
      ∧ r.2.mem ((c.tc : Thread Cert.KernelHIdeal.nD Cert.KernelHIdeal.τ).loc Cert.KernelHIdeal.main_arg8) = m ((c.tc : Thread Cert.KernelHIdeal.nD Cert.KernelHIdeal.τ).loc Cert.KernelHIdeal.main_arg8))
      ∧ r.2.sem = fun _ => 0)

def quiescent_ReferenceHIdeal [hReferenceHIdeal : Cert.ReferenceHIdeal.Facts] : Prop :=
  ∀ (m : (ℓ : Loc Cert.ReferenceHIdeal.nD Cert.ReferenceHIdeal.τ Cert.ReferenceHIdeal.sig) → Buf (Elt Ideal) ℓ) (g : Dev Cert.ReferenceHIdeal.nD → PrngReg), Pre_ReferenceHIdeal m →
    θ_run (Cert.ReferenceHIdeal.defs (F := Ideal)) (onTc (τ := Cert.ReferenceHIdeal.τ) (Cert.ReferenceHIdeal.main (F := Ideal))) ⟨m, fun _ => 0, g⟩ (fun r => (∀ c : Dev Cert.ReferenceHIdeal.nD,
      r.2.mem ((c.tc : Thread Cert.ReferenceHIdeal.nD Cert.ReferenceHIdeal.τ).loc Cert.ReferenceHIdeal.main_arg0) = m ((c.tc : Thread Cert.ReferenceHIdeal.nD Cert.ReferenceHIdeal.τ).loc Cert.ReferenceHIdeal.main_arg0)
      ∧ r.2.mem ((c.tc : Thread Cert.ReferenceHIdeal.nD Cert.ReferenceHIdeal.τ).loc Cert.ReferenceHIdeal.main_arg1) = m ((c.tc : Thread Cert.ReferenceHIdeal.nD Cert.ReferenceHIdeal.τ).loc Cert.ReferenceHIdeal.main_arg1)
      ∧ r.2.mem ((c.tc : Thread Cert.ReferenceHIdeal.nD Cert.ReferenceHIdeal.τ).loc Cert.ReferenceHIdeal.main_arg2) = m ((c.tc : Thread Cert.ReferenceHIdeal.nD Cert.ReferenceHIdeal.τ).loc Cert.ReferenceHIdeal.main_arg2)
      ∧ r.2.mem ((c.tc : Thread Cert.ReferenceHIdeal.nD Cert.ReferenceHIdeal.τ).loc Cert.ReferenceHIdeal.main_arg3) = m ((c.tc : Thread Cert.ReferenceHIdeal.nD Cert.ReferenceHIdeal.τ).loc Cert.ReferenceHIdeal.main_arg3)
      ∧ r.2.mem ((c.tc : Thread Cert.ReferenceHIdeal.nD Cert.ReferenceHIdeal.τ).loc Cert.ReferenceHIdeal.main_arg4) = m ((c.tc : Thread Cert.ReferenceHIdeal.nD Cert.ReferenceHIdeal.τ).loc Cert.ReferenceHIdeal.main_arg4)
      ∧ r.2.mem ((c.tc : Thread Cert.ReferenceHIdeal.nD Cert.ReferenceHIdeal.τ).loc Cert.ReferenceHIdeal.main_arg5) = m ((c.tc : Thread Cert.ReferenceHIdeal.nD Cert.ReferenceHIdeal.τ).loc Cert.ReferenceHIdeal.main_arg5)
      ∧ r.2.mem ((c.tc : Thread Cert.ReferenceHIdeal.nD Cert.ReferenceHIdeal.τ).loc Cert.ReferenceHIdeal.main_arg6) = m ((c.tc : Thread Cert.ReferenceHIdeal.nD Cert.ReferenceHIdeal.τ).loc Cert.ReferenceHIdeal.main_arg6)
      ∧ r.2.mem ((c.tc : Thread Cert.ReferenceHIdeal.nD Cert.ReferenceHIdeal.τ).loc Cert.ReferenceHIdeal.main_arg7) = m ((c.tc : Thread Cert.ReferenceHIdeal.nD Cert.ReferenceHIdeal.τ).loc Cert.ReferenceHIdeal.main_arg7)
      ∧ r.2.mem ((c.tc : Thread Cert.ReferenceHIdeal.nD Cert.ReferenceHIdeal.τ).loc Cert.ReferenceHIdeal.main_arg8) = m ((c.tc : Thread Cert.ReferenceHIdeal.nD Cert.ReferenceHIdeal.τ).loc Cert.ReferenceHIdeal.main_arg8))
      ∧ r.2.sem = fun _ => 0)

def preserves_Kernel2_Kernel2Ideal : Prop :=
  True

def algebraic_Kernel2Ideal_Reference2Ideal_pre_scores_separate_2 [hKernel2Ideal : Cert.Kernel2Ideal.Facts] [hReference2Ideal : Cert.Reference2Ideal.Facts] [hPre_scores_separate_2 : Cert.Pre_scores_separate_2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_scores_separate_2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_KernelH_KernelHIdeal : Prop :=
  True

def algebraic_KernelHIdeal_ReferenceHIdeal [hKernelHIdeal : Cert.KernelHIdeal.Facts] [hReferenceHIdeal : Cert.ReferenceHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg)
    (m' : (ℓ : Loc Cert.ReferenceHIdeal.nD Cert.ReferenceHIdeal.τ Cert.ReferenceHIdeal.sig) → Buf (Elt Ideal) ℓ) (g' : Dev Cert.ReferenceHIdeal.nD → PrngReg), Pre_KernelHIdeal m →
    (∀ c : Dev Cert.KernelHIdeal.nD,
      m' ((c.tc : Thread Cert.ReferenceHIdeal.nD Cert.ReferenceHIdeal.τ).loc Cert.ReferenceHIdeal.main_arg0) = m ((c.tc : Thread Cert.KernelHIdeal.nD Cert.KernelHIdeal.τ).loc Cert.KernelHIdeal.main_arg0)
      ∧ m' ((c.tc : Thread Cert.ReferenceHIdeal.nD Cert.ReferenceHIdeal.τ).loc Cert.ReferenceHIdeal.main_arg1) = m ((c.tc : Thread Cert.KernelHIdeal.nD Cert.KernelHIdeal.τ).loc Cert.KernelHIdeal.main_arg1)
      ∧ m' ((c.tc : Thread Cert.ReferenceHIdeal.nD Cert.ReferenceHIdeal.τ).loc Cert.ReferenceHIdeal.main_arg2) = m ((c.tc : Thread Cert.KernelHIdeal.nD Cert.KernelHIdeal.τ).loc Cert.KernelHIdeal.main_arg2)
      ∧ m' ((c.tc : Thread Cert.ReferenceHIdeal.nD Cert.ReferenceHIdeal.τ).loc Cert.ReferenceHIdeal.main_arg3) = m ((c.tc : Thread Cert.KernelHIdeal.nD Cert.KernelHIdeal.τ).loc Cert.KernelHIdeal.main_arg3)
      ∧ m' ((c.tc : Thread Cert.ReferenceHIdeal.nD Cert.ReferenceHIdeal.τ).loc Cert.ReferenceHIdeal.main_arg4) = m ((c.tc : Thread Cert.KernelHIdeal.nD Cert.KernelHIdeal.τ).loc Cert.KernelHIdeal.main_arg4)
      ∧ m' ((c.tc : Thread Cert.ReferenceHIdeal.nD Cert.ReferenceHIdeal.τ).loc Cert.ReferenceHIdeal.main_arg5) = m ((c.tc : Thread Cert.KernelHIdeal.nD Cert.KernelHIdeal.τ).loc Cert.KernelHIdeal.main_arg5)
      ∧ m' ((c.tc : Thread Cert.ReferenceHIdeal.nD Cert.ReferenceHIdeal.τ).loc Cert.ReferenceHIdeal.main_arg6) = m ((c.tc : Thread Cert.KernelHIdeal.nD Cert.KernelHIdeal.τ).loc Cert.KernelHIdeal.main_arg6)
      ∧ m' ((c.tc : Thread Cert.ReferenceHIdeal.nD Cert.ReferenceHIdeal.τ).loc Cert.ReferenceHIdeal.main_arg7) = m ((c.tc : Thread Cert.KernelHIdeal.nD Cert.KernelHIdeal.τ).loc Cert.KernelHIdeal.main_arg7)
      ∧ m' ((c.tc : Thread Cert.ReferenceHIdeal.nD Cert.ReferenceHIdeal.τ).loc Cert.ReferenceHIdeal.main_arg8) = m ((c.tc : Thread Cert.KernelHIdeal.nD Cert.KernelHIdeal.τ).loc Cert.KernelHIdeal.main_arg8)) →
    ∃ (v0 : (c : Dev Cert.KernelHIdeal.nD) → Buf (Elt Ideal) ((c.tc : Thread Cert.KernelHIdeal.nD Cert.KernelHIdeal.τ).loc Cert.KernelHIdeal.main_v72_0)) (v1 : (c : Dev Cert.KernelHIdeal.nD) → Buf (Elt Ideal) ((c.tc : Thread Cert.KernelHIdeal.nD Cert.KernelHIdeal.τ).loc Cert.KernelHIdeal.main_v72_1)) (v2 : (c : Dev Cert.KernelHIdeal.nD) → Buf (Elt Ideal) ((c.tc : Thread Cert.KernelHIdeal.nD Cert.KernelHIdeal.τ).loc Cert.KernelHIdeal.main_v69)),
      θ_run (Cert.KernelHIdeal.defs (F := Ideal)) (onTc (τ := Cert.KernelHIdeal.τ) (Cert.KernelHIdeal.main (F := Ideal))) ⟨m, fun _ => 0, g⟩ (fun r => ∀ c : Dev Cert.KernelHIdeal.nD,
          r.2.mem ((c.tc : Thread Cert.KernelHIdeal.nD Cert.KernelHIdeal.τ).loc Cert.KernelHIdeal.main_v72_0) = v0 c
          ∧ r.2.mem ((c.tc : Thread Cert.KernelHIdeal.nD Cert.KernelHIdeal.τ).loc Cert.KernelHIdeal.main_v72_1) = v1 c
          ∧ r.2.mem ((c.tc : Thread Cert.KernelHIdeal.nD Cert.KernelHIdeal.τ).loc Cert.KernelHIdeal.main_v69) = v2 c
          ∧ r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
          ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
          ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
          ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
          ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4)
          ∧ r.2.mem ((c.tc : Thread Cert.KernelHIdeal.nD Cert.KernelHIdeal.τ).loc Cert.KernelHIdeal.main_arg5) = m ((c.tc : Thread Cert.KernelHIdeal.nD Cert.KernelHIdeal.τ).loc Cert.KernelHIdeal.main_arg5)
          ∧ r.2.mem ((c.tc : Thread Cert.KernelHIdeal.nD Cert.KernelHIdeal.τ).loc Cert.KernelHIdeal.main_arg6) = m ((c.tc : Thread Cert.KernelHIdeal.nD Cert.KernelHIdeal.τ).loc Cert.KernelHIdeal.main_arg6)
          ∧ r.2.mem ((c.tc : Thread Cert.KernelHIdeal.nD Cert.KernelHIdeal.τ).loc Cert.KernelHIdeal.main_arg7) = m ((c.tc : Thread Cert.KernelHIdeal.nD Cert.KernelHIdeal.τ).loc Cert.KernelHIdeal.main_arg7)
          ∧ r.2.mem ((c.tc : Thread Cert.KernelHIdeal.nD Cert.KernelHIdeal.τ).loc Cert.KernelHIdeal.main_arg8) = m ((c.tc : Thread Cert.KernelHIdeal.nD Cert.KernelHIdeal.τ).loc Cert.KernelHIdeal.main_arg8))
      ∧ θ_run (Cert.ReferenceHIdeal.defs (F := Ideal)) (onTc (τ := Cert.ReferenceHIdeal.τ) (Cert.ReferenceHIdeal.main (F := Ideal))) ⟨m', fun _ => 0, g'⟩ (fun r => ∀ c : Dev Cert.ReferenceHIdeal.nD,
          r.2.mem ((c.tc : Thread Cert.ReferenceHIdeal.nD Cert.ReferenceHIdeal.τ).loc Cert.ReferenceHIdeal.main_v76) = v0 c
          ∧ r.2.mem ((c.tc : Thread Cert.ReferenceHIdeal.nD Cert.ReferenceHIdeal.τ).loc Cert.ReferenceHIdeal.main_v78) = v1 c
          ∧ r.2.mem ((c.tc : Thread Cert.ReferenceHIdeal.nD Cert.ReferenceHIdeal.τ).loc Cert.ReferenceHIdeal.main_v79) = v2 c
          ∧ r.2.mem ((c.tc : Thread Cert.ReferenceHIdeal.nD Cert.ReferenceHIdeal.τ).loc Cert.ReferenceHIdeal.main_arg0) = m' ((c.tc : Thread Cert.ReferenceHIdeal.nD Cert.ReferenceHIdeal.τ).loc Cert.ReferenceHIdeal.main_arg0)
          ∧ r.2.mem ((c.tc : Thread Cert.ReferenceHIdeal.nD Cert.ReferenceHIdeal.τ).loc Cert.ReferenceHIdeal.main_arg1) = m' ((c.tc : Thread Cert.ReferenceHIdeal.nD Cert.ReferenceHIdeal.τ).loc Cert.ReferenceHIdeal.main_arg1)
          ∧ r.2.mem ((c.tc : Thread Cert.ReferenceHIdeal.nD Cert.ReferenceHIdeal.τ).loc Cert.ReferenceHIdeal.main_arg2) = m' ((c.tc : Thread Cert.ReferenceHIdeal.nD Cert.ReferenceHIdeal.τ).loc Cert.ReferenceHIdeal.main_arg2)
          ∧ r.2.mem ((c.tc : Thread Cert.ReferenceHIdeal.nD Cert.ReferenceHIdeal.τ).loc Cert.ReferenceHIdeal.main_arg3) = m' ((c.tc : Thread Cert.ReferenceHIdeal.nD Cert.ReferenceHIdeal.τ).loc Cert.ReferenceHIdeal.main_arg3)
          ∧ r.2.mem ((c.tc : Thread Cert.ReferenceHIdeal.nD Cert.ReferenceHIdeal.τ).loc Cert.ReferenceHIdeal.main_arg4) = m' ((c.tc : Thread Cert.ReferenceHIdeal.nD Cert.ReferenceHIdeal.τ).loc Cert.ReferenceHIdeal.main_arg4)
          ∧ r.2.mem ((c.tc : Thread Cert.ReferenceHIdeal.nD Cert.ReferenceHIdeal.τ).loc Cert.ReferenceHIdeal.main_arg5) = m' ((c.tc : Thread Cert.ReferenceHIdeal.nD Cert.ReferenceHIdeal.τ).loc Cert.ReferenceHIdeal.main_arg5)
          ∧ r.2.mem ((c.tc : Thread Cert.ReferenceHIdeal.nD Cert.ReferenceHIdeal.τ).loc Cert.ReferenceHIdeal.main_arg6) = m' ((c.tc : Thread Cert.ReferenceHIdeal.nD Cert.ReferenceHIdeal.τ).loc Cert.ReferenceHIdeal.main_arg6)
          ∧ r.2.mem ((c.tc : Thread Cert.ReferenceHIdeal.nD Cert.ReferenceHIdeal.τ).loc Cert.ReferenceHIdeal.main_arg7) = m' ((c.tc : Thread Cert.ReferenceHIdeal.nD Cert.ReferenceHIdeal.τ).loc Cert.ReferenceHIdeal.main_arg7)
          ∧ r.2.mem ((c.tc : Thread Cert.ReferenceHIdeal.nD Cert.ReferenceHIdeal.τ).loc Cert.ReferenceHIdeal.main_arg8) = m' ((c.tc : Thread Cert.ReferenceHIdeal.nD Cert.ReferenceHIdeal.τ).loc Cert.ReferenceHIdeal.main_arg8))

def Claim : Prop :=
  ∃ (hKernel2 : Cert.Kernel2.Facts) (hKernel2Ideal : Cert.Kernel2Ideal.Facts) (hReference2Ideal : Cert.Reference2Ideal.Facts) (hKernelH : Cert.KernelH.Facts) (hKernelHIdeal : Cert.KernelHIdeal.Facts) (hReferenceHIdeal : Cert.ReferenceHIdeal.Facts) (hPre_scores_separate_2 : Cert.Pre_scores_separate_2.Facts),
    quiescent_Kernel2 (hKernel2 := hKernel2)
    ∧ quiescent_Kernel2Ideal (hKernel2Ideal := hKernel2Ideal)
    ∧ quiescent_Kernel2Ideal_pre_scores_separate_2 (hKernel2Ideal := hKernel2Ideal) (hPre_scores_separate_2 := hPre_scores_separate_2)
    ∧ quiescent_Reference2Ideal (hReference2Ideal := hReference2Ideal)
    ∧ quiescent_Reference2Ideal_pre_scores_separate_2 (hReference2Ideal := hReference2Ideal) (hPre_scores_separate_2 := hPre_scores_separate_2)
    ∧ quiescent_KernelH (hKernelH := hKernelH)
    ∧ quiescent_KernelHIdeal (hKernelHIdeal := hKernelHIdeal)
    ∧ quiescent_ReferenceHIdeal (hReferenceHIdeal := hReferenceHIdeal)
    ∧ preserves_Kernel2_Kernel2Ideal
    ∧ algebraic_Kernel2Ideal_Reference2Ideal_pre_scores_separate_2 (hKernel2Ideal := hKernel2Ideal) (hReference2Ideal := hReference2Ideal) (hPre_scores_separate_2 := hPre_scores_separate_2)
    ∧ preserves_KernelH_KernelHIdeal
    ∧ algebraic_KernelHIdeal_ReferenceHIdeal (hKernelHIdeal := hKernelHIdeal) (hReferenceHIdeal := hReferenceHIdeal)
-- ==== Pre_scores_separate_2.lean ====
abbrev S2048x2048 : Shape := ⟨2, ![2048, 2048]⟩
abbrev S2048x128 : Shape := ⟨2, ![2048, 128]⟩
abbrev S2048x16 : Shape := ⟨2, ![2048, 16]⟩
abbrev S1x2048x16x128 : Shape := ⟨4, ![1, 2048, 16, 128]⟩
abbrev S1x512x16x128 : Shape := ⟨4, ![1, 512, 16, 128]⟩
abbrev S1x2048x128 : Shape := ⟨3, ![1, 2048, 128]⟩
abbrev S1x2048x16 : Shape := ⟨3, ![1, 2048, 16]⟩
abbrev S1x512x16 : Shape := ⟨3, ![1, 512, 16]⟩
abbrev S1x512x16x1 : Shape := ⟨4, ![1, 512, 16, 1]⟩
abbrev S512x2048 : Shape := ⟨2, ![512, 2048]⟩
abbrev S_ : Shape := ⟨0, ![]⟩
abbrev S1x2048x512x16 : Shape := ⟨4, ![1, 2048, 512, 16]⟩
abbrev S1x16x512x2048 : Shape := ⟨4, ![1, 16, 512, 2048]⟩
abbrev S1x16x512x1 : Shape := ⟨4, ![1, 16, 512, 1]⟩
abbrev S1x512x2048 : Shape := ⟨3, ![1, 512, 2048]⟩
abbrev S1x512x513 : Shape := ⟨3, ![1, 512, 513]⟩
abbrev S1x512x512 : Shape := ⟨3, ![1, 512, 512]⟩

class Facts : Prop where
  bitsLt_bf16_f32 : FTy.bits .bf16 < FTy.bits .f32
  shapeCasts_S2048x2048_S1x2048x16x128 : S2048x2048.ShapeCasts S1x2048x16x128
  slices_S1x2048x16x128_S1x512x16x128_0_1024_0_0 : S1x2048x16x128.Slices ![0, 1024, 0, 0] S1x512x16x128
  shapeCasts_S2048x128_S1x2048x128 : S2048x128.ShapeCasts S1x2048x128
  shapeCasts_S2048x16_S1x2048x16 : S2048x16.ShapeCasts S1x2048x16
  slices_S1x2048x16_S1x512x16_0_1024_0 : S1x2048x16.Slices ![0, 1024, 0] S1x512x16
  bcast_S1x512x16_S1x512x16x1_0_1_2 : S1x512x16.BroadcastsInDim S1x512x16x1 (![0, 1, 2] : Fin 3 → Fin S1x512x16x1.rank)
  bcast_S_S512x2048 : S_.BroadcastsInDim S512x2048 (![] : Fin 0 → Fin S512x2048.rank)
  transposes_S1x2048x512x16_S1x16x512x2048_0_3_2_1 : S1x2048x512x16.Transposes [0, 3, 2, 1] S1x16x512x2048
  bcast_S_S1x16x512x2048 : S_.BroadcastsInDim S1x16x512x2048 (![] : Fin 0 → Fin S1x16x512x2048.rank)
  transposes_S1x512x16x1_S1x16x512x1_0_2_1_3 : S1x512x16x1.Transposes [0, 2, 1, 3] S1x16x512x1
  bcast_S1x16x512x1_S1x16x512x2048_0_1_2_3 : S1x16x512x1.BroadcastsInDim S1x16x512x2048 (![0, 1, 2, 3] : Fin 4 → Fin S1x16x512x2048.rank)
  reducesTo_S1x16x512x2048_S1x512x2048_d1 : S1x16x512x2048.ReducesTo [1] S1x512x2048
  h_S_ : 0 < S_.numel
  bcast_S512x2048_S1x512x2048_1_2 : S512x2048.BroadcastsInDim S1x512x2048 (![1, 2] : Fin 2 → Fin S1x512x2048.rank)
  sliceFits_S1x512x2048_S1x512x513 : S1x512x2048.Slices (fun _ => 0) S1x512x513
  bcast_S_S1x512x2048 : S_.BroadcastsInDim S1x512x2048 (![] : Fin 0 → Fin S1x512x2048.rank)
  slices_S1x512x513_S1x512x512_0_0_0 : S1x512x513.Slices ![0, 0, 0] S1x512x512
  slices_S1x512x513_S1x512x512_0_0_1 : S1x512x513.Slices ![0, 0, 1] S1x512x512
  bcast_S_S1x512x512 : S_.BroadcastsInDim S1x512x512 (![] : Fin 0 → Fin S1x512x512.rank)
  dot_S1x2048x128_S1x512x16x128_S1x2048x512x16_2_3_1_12_0_0_wf : DotDims.WF S1x2048x128 S1x512x16x128 S1x2048x512x16 [2] [3] [1] [1, 2] [0] [0]

variable [Facts]

def dot_S1x2048x128_S1x512x16x128_S1x2048x512x16_2_3_1_12_0_0 : DotDims S1x2048x128 S1x512x16x128 S1x2048x512x16 where
  lhsContracting := [2]
  rhsContracting := [3]
  lhsNonContracting := [1]
  rhsNonContracting := [1, 2]
  lhsBatch := [0]
  rhsBatch := [0]
  wf := dot_S1x2048x128_S1x512x16x128_S1x2048x512x16_2_3_1_12_0_0_wf
def fn_where {F : FTy → Type} [FloatOps F] (arg0 : IVec S512x2048 1) (arg1 : FVec F S_ .f32) (arg2 : FVec F S_ .f32) : FVec F S512x2048 .f32 :=
  let v0 : FVec F S512x2048 .f32 := broadcastInDim S512x2048 ![] bcast_S_S512x2048 arg1
  let v1 : FVec F S512x2048 .f32 := broadcastInDim S512x2048 ![] bcast_S_S512x2048 arg2
  let v2 : FVec F S512x2048 .f32 := select arg0 v0 v1
  v2

def fn_relu {F : FTy → Type} [FloatOps F] (arg0 : FVec F S1x16x512x2048 .f32) : FVec F S1x16x512x2048 .f32 :=
  let cst : FVec F S_ .f32 := constant S_ .f32 0x00000000#32
  let v0 : FVec F S1x16x512x2048 .f32 := broadcastInDim S1x16x512x2048 ![] bcast_S_S1x16x512x2048 cst
  let v1 : FVec F S1x16x512x2048 .f32 := maximumf arg0 v0
  v1

def fn_part1 {F : FTy → Type} [FloatOps F] (main_v13 : FVec F S512x2048 .f32) (main_v19 : FVec F S1x16x512x2048 .f32) (main_cst_1 : FVec F S_ .f32) : IVec S1x512x2048 1 × IVec S1x512x512 1 × IVec S1x512x512 1 :=
  let main_v20 : FVec F S1x512x2048 .f32 := (fun x v => Host.reduceAdd x v reducesTo_S1x16x512x2048_S1x512x2048_d1 h_S_) main_v19 main_cst_1
  let main_v21 : FVec F S1x512x2048 .f32 := broadcastInDim S1x512x2048 ![1, 2] bcast_S512x2048_S1x512x2048_1_2 main_v13
  let main_v22 : FVec F S1x512x2048 .f32 := addf main_v20 main_v21
  let main_v23 : IVec S512x2048 32 := iotaInDim S512x2048 32 0
  let main_c_2 : IVec S_ 32 := constantI S_ 32 1024#32
  let main_v24 : IVec S512x2048 32 := broadcastInDim S512x2048 ![] bcast_S_S512x2048 main_c_2
  let main_v25 : IVec S512x2048 32 := addi main_v23 main_v24
  let main_v26 : IVec S512x2048 32 := iotaInDim S512x2048 32 1
  let main_values : FVec F S1x512x513 .f32 := (fun x => (Host.topK S1x512x513 2 (FloatOps.cmpfTotal .gt) x sliceFits_S1x512x2048_S1x512x513).1) main_v22
  let main_indices : IVec S1x512x513 32 := (fun x => (Host.topK S1x512x513 2 (FloatOps.cmpfTotal .gt) x sliceFits_S1x512x2048_S1x512x513).2) main_v22
  let main_v27 : IVec S512x2048 1 := cmpi .sge main_v25 main_v26
  let main_cst_3 : FVec F S_ .f32 := constant S_ .f32 0xCCBEBC20#32
  let main_v28 : FVec F S1x512x2048 .f32 := broadcastInDim S1x512x2048 ![] bcast_S_S1x512x2048 main_cst_3
  let main_v29 : IVec S1x512x2048 1 := cmpf .olt main_v22 main_v28
  let main_v30 : IVec S1x512x2048 1 := broadcastInDim S1x512x2048 ![1, 2] bcast_S512x2048_S1x512x2048_1_2 main_v27
  let main_v31 : IVec S1x512x2048 1 := ori main_v30 main_v29
  let main_v32 : FVec F S1x512x512 .f32 := (extractStridedSlice S1x512x512 ![0, 0, 0] · slices_S1x512x513_S1x512x512_0_0_0) main_values
  let main_v33 : FVec F S1x512x512 .f32 := (extractStridedSlice S1x512x512 ![0, 0, 1] · slices_S1x512x513_S1x512x512_0_0_1) main_values
  let main_v34 : IVec S1x512x512 1 := cmpf .ogt main_v32 main_v33
  let main_v35 : FVec F S1x512x512 .f32 := (extractStridedSlice S1x512x512 ![0, 0, 0] · slices_S1x512x513_S1x512x512_0_0_0) main_values
  let main_cst_4 : FVec F S_ .f32 := constant S_ .f32 0xCCBEBC20#32
  let main_v36 : FVec F S1x512x512 .f32 := broadcastInDim S1x512x512 ![] bcast_S_S1x512x512 main_cst_4
  let main_v37 : IVec S1x512x512 1 := cmpf .oge main_v35 main_v36
  (main_v31, main_v34, main_v37)

def fn {F : FTy → Type} [FloatOps F] (main_arg0 : FVec F S2048x2048 .bf16) (main_arg1 : FVec F S2048x128 .bf16) (main_arg2 : FVec F S2048x16 .f32) : IVec S1x512x2048 1 × IVec S1x512x512 1 × IVec S1x512x512 1 :=
  let main_v0 : FVec F S2048x2048 .f32 := (extf .f32 · bitsLt_bf16_f32) main_arg0
  let main_v1 : FVec F S1x2048x16x128 .f32 := shapeCast S1x2048x16x128 main_v0 shapeCasts_S2048x2048_S1x2048x16x128
  let main_v2 : FVec F S1x512x16x128 .f32 := (extractStridedSlice S1x512x16x128 ![0, 1024, 0, 0] · slices_S1x2048x16x128_S1x512x16x128_0_1024_0_0) main_v1
  let main_v3 : FVec F S2048x128 .f32 := (extf .f32 · bitsLt_bf16_f32) main_arg1
  let main_v4 : FVec F S1x2048x128 .f32 := shapeCast S1x2048x128 main_v3 shapeCasts_S2048x128_S1x2048x128
  let main_v5 : FVec F S1x2048x16 .f32 := shapeCast S1x2048x16 main_arg2 shapeCasts_S2048x16_S1x2048x16
  let main_v6 : FVec F S1x512x16 .f32 := (extractStridedSlice S1x512x16 ![0, 1024, 0] · slices_S1x2048x16_S1x512x16_0_1024_0) main_v5
  let main_v7 : FVec F S1x512x16x1 .f32 := broadcastInDim S1x512x16x1 ![0, 1, 2] bcast_S1x512x16_S1x512x16x1_0_1_2 main_v6
  let main_v8 : IVec S512x2048 32 := iotaInDim S512x2048 32 0
  let main_c : IVec S_ 32 := constantI S_ 32 1024#32
  let main_v9 : IVec S512x2048 32 := broadcastInDim S512x2048 ![] bcast_S_S512x2048 main_c
  let main_v10 : IVec S512x2048 32 := addi main_v8 main_v9
  let main_v11 : IVec S512x2048 32 := iotaInDim S512x2048 32 1
  let main_v12 : IVec S512x2048 1 := cmpi .sge main_v10 main_v11
  let main_cst : FVec F S_ .f32 := constant S_ .f32 0x00000000#32
  let main_cst_0 : FVec F S_ .f32 := constant S_ .f32 0xCE6E6B28#32
  let main_v13 : FVec F S512x2048 .f32 := fn_where (F := F) main_v12 main_cst main_cst_0
  let main_v14 : FVec F S1x2048x512x16 .f32 := (fun l r => Host.dotGeneral dot_S1x2048x128_S1x512x16x128_S1x2048x512x16_2_3_1_12_0_0 none l r) main_v4 main_v2
  let main_v15 : FVec F S1x16x512x2048 .f32 := (transpose S1x16x512x2048 [0, 3, 2, 1] · transposes_S1x2048x512x16_S1x16x512x2048_0_3_2_1) main_v14
  let main_v16 : FVec F S1x16x512x2048 .f32 := fn_relu (F := F) main_v15
  let main_v17 : FVec F S1x16x512x1 .f32 := (transpose S1x16x512x1 [0, 2, 1, 3] · transposes_S1x512x16x1_S1x16x512x1_0_2_1_3) main_v7
  let main_v18 : FVec F S1x16x512x2048 .f32 := broadcastInDim S1x16x512x2048 ![0, 1, 2, 3] bcast_S1x16x512x1_S1x16x512x2048_0_1_2_3 main_v17
  let main_v19 : FVec F S1x16x512x2048 .f32 := mulf main_v16 main_v18
  let main_cst_1 : FVec F S_ .f32 := constant S_ .f32 0x00000000#32
  fn_part1 (F := F) main_v13 main_v19 main_cst_1
-- ==== Kernel2.lean ====
abbrev S2048x2048 : Shape := ⟨2, ![2048, 2048]⟩
abbrev S2048x128 : Shape := ⟨2, ![2048, 128]⟩
abbrev S2048x16 : Shape := ⟨2, ![2048, 16]⟩
abbrev S512x512 : Shape := ⟨2, ![512, 512]⟩
abbrev S256x2048 : Shape := ⟨2, ![256, 2048]⟩
abbrev S1536x128 : Shape := ⟨2, ![1536, 128]⟩
abbrev S256x16 : Shape := ⟨2, ![256, 16]⟩
abbrev S256x512 : Shape := ⟨2, ![256, 512]⟩
abbrev S256x1536 : Shape := ⟨2, ![256, 1536]⟩
abbrev S256x128 : Shape := ⟨2, ![256, 128]⟩
abbrev S256x1 : Shape := ⟨2, ![256, 1]⟩
abbrev S1x1536 : Shape := ⟨2, ![1, 1536]⟩
abbrev S256x1535 : Shape := ⟨2, ![256, 1535]⟩
abbrev S256x1534 : Shape := ⟨2, ![256, 1534]⟩
abbrev S256x2 : Shape := ⟨2, ![256, 2]⟩
abbrev S256x1532 : Shape := ⟨2, ![256, 1532]⟩
abbrev S256x4 : Shape := ⟨2, ![256, 4]⟩
abbrev S256x1528 : Shape := ⟨2, ![256, 1528]⟩
abbrev S256x8 : Shape := ⟨2, ![256, 8]⟩
abbrev S256x1520 : Shape := ⟨2, ![256, 1520]⟩
abbrev S256x1504 : Shape := ⟨2, ![256, 1504]⟩
abbrev S256x32 : Shape := ⟨2, ![256, 32]⟩
abbrev S256x1472 : Shape := ⟨2, ![256, 1472]⟩
abbrev S256x64 : Shape := ⟨2, ![256, 64]⟩
abbrev S256x1024 : Shape := ⟨2, ![256, 1024]⟩
abbrev S1x1024 : Shape := ⟨2, ![1, 1024]⟩
abbrev S256x960 : Shape := ⟨2, ![256, 960]⟩
abbrev S256x992 : Shape := ⟨2, ![256, 992]⟩
abbrev S256x1008 : Shape := ⟨2, ![256, 1008]⟩
abbrev S256x1016 : Shape := ⟨2, ![256, 1016]⟩
abbrev S256x1020 : Shape := ⟨2, ![256, 1020]⟩
abbrev S256x1022 : Shape := ⟨2, ![256, 1022]⟩
abbrev S256x1023 : Shape := ⟨2, ![256, 1023]⟩
abbrev S1x512 : Shape := ⟨2, ![1, 512]⟩
abbrev S256x448 : Shape := ⟨2, ![256, 448]⟩
abbrev S256x480 : Shape := ⟨2, ![256, 480]⟩
abbrev S256x496 : Shape := ⟨2, ![256, 496]⟩
abbrev S256x504 : Shape := ⟨2, ![256, 504]⟩
abbrev S256x508 : Shape := ⟨2, ![256, 508]⟩
abbrev S256x510 : Shape := ⟨2, ![256, 510]⟩
abbrev S256x511 : Shape := ⟨2, ![256, 511]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x16, .f32⟩
  | .hbm, ⟨3, _⟩ => ⟨S512x512, .f32⟩
  | .hbm, ⟨4, _⟩ => ⟨S512x512, .i32⟩
  | .local _ .vmem, ⟨0, _⟩ => ⟨S256x2048, .bf16⟩
  | .local _ .vmem, ⟨1, _⟩ => ⟨S256x2048, .bf16⟩
  | .local _ .vmem, ⟨2, _⟩ => ⟨S1536x128, .bf16⟩
  | .local _ .vmem, ⟨3, _⟩ => ⟨S256x16, .f32⟩
  | .local _ .vmem, ⟨4, _⟩ => ⟨S256x16, .f32⟩
  | .local _ .vmem, ⟨5, _⟩ => ⟨S256x512, .f32⟩
  | .local _ .vmem, ⟨6, _⟩ => ⟨S256x512, .f32⟩
  | .local _ .vmem, ⟨7, _⟩ => ⟨S256x512, .i32⟩
  | .local _ .vmem, ⟨8, _⟩ => ⟨S256x512, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S2048x2048 : Shape := ⟨2, ![2048, 2048]⟩
abbrev S2048x128 : Shape := ⟨2, ![2048, 128]⟩
abbrev S2048x16 : Shape := ⟨2, ![2048, 16]⟩
abbrev S1x2048x16x128 : Shape := ⟨4, ![1, 2048, 16, 128]⟩
abbrev S1x512x16x128 : Shape := ⟨4, ![1, 512, 16, 128]⟩
abbrev S1x2048x128 : Shape := ⟨3, ![1, 2048, 128]⟩
abbrev S1x2048x16 : Shape := ⟨3, ![1, 2048, 16]⟩
abbrev S1x512x16 : Shape := ⟨3, ![1, 512, 16]⟩
abbrev S1x512x16x1 : Shape := ⟨4, ![1, 512, 16, 1]⟩
abbrev S512x2048 : Shape := ⟨2, ![512, 2048]⟩
abbrev S_ : Shape := ⟨0, ![]⟩
abbrev S1x2048x512x16 : Shape := ⟨4, ![1, 2048, 512, 16]⟩
abbrev S1x16x512x2048 : Shape := ⟨4, ![1, 16, 512, 2048]⟩
abbrev S1x16x512x1 : Shape := ⟨4, ![1, 16, 512, 1]⟩
abbrev S1x512x2048 : Shape := ⟨3, ![1, 512, 2048]⟩
abbrev S1x512x512 : Shape := ⟨3, ![1, 512, 512]⟩
abbrev S512x512 : Shape := ⟨2, ![512, 512]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x128, .bf16⟩
  | .hbm, ⟨2, _⟩ => ⟨S2048x16, .f32⟩
  | .hbm, ⟨3, _⟩ => ⟨S2048x2048, .f32⟩
  | .hbm, ⟨4, _⟩ => ⟨S1x2048x16x128, .f32⟩
  | .hbm, ⟨5, _⟩ => ⟨S1x512x16x128, .f32⟩
  | .hbm, ⟨6, _⟩ => ⟨S2048x128, .f32⟩
  | .hbm, ⟨7, _⟩ => ⟨S1x2048x128, .f32⟩
  | .hbm, ⟨8, _⟩ => ⟨S1x2048x16, .f32⟩
  | .hbm, ⟨9, _⟩ => ⟨S1x512x16, .f32⟩
  | .hbm, ⟨10, _⟩ => ⟨S1x512x16x1, .f32⟩
  | .hbm, ⟨11, _⟩ => ⟨S512x2048, .i32⟩
  | .hbm, ⟨12, _⟩ => ⟨S_, .i32⟩
  | .hbm, ⟨13, _⟩ => ⟨S512x2048, .i32⟩
  | .hbm, ⟨14, _⟩ => ⟨S512x2048, .i32⟩
  | .hbm, ⟨15, _⟩ => ⟨S512x2048, .i32⟩
  | .hbm, ⟨16, _⟩ => ⟨S512x2048, .i1⟩
  | .hbm, ⟨17, _⟩ => ⟨S_, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S1x2048x512x16, .f32⟩
  | .hbm, ⟨23, _⟩ => ⟨S1x16x512x2048, .f32⟩
  | .hbm, ⟨24, _⟩ => ⟨S_, .f32⟩
  | .hbm, ⟨25, _⟩ => ⟨S1x16x512x2048, .f32⟩
  | .hbm, ⟨26, _⟩ => ⟨S1x16x512x2048, .f32⟩
  | .hbm, ⟨27, _⟩ => ⟨S1x16x512x1, .f32⟩
  | .hbm, ⟨28, _⟩ => ⟨S1x16x512x2048, .f32⟩
  | .hbm, ⟨29, _⟩ => ⟨S1x16x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S1x512x512, .f32⟩
  | .hbm, ⟨35, _⟩ => ⟨S1x512x512, .i32⟩
  | .hbm, ⟨36, _⟩ => ⟨S512x512, .f32⟩
  | .hbm, ⟨37, _⟩ => ⟨S512x512, .i32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call1_cst : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_values : Ref sig .tc := ⟨.hbm, 34, rfl⟩
abbrev main_indices : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== KernelH.lean ====
abbrev S1x2048x2048 : Shape := ⟨3, ![1, 2048, 2048]⟩
abbrev S1x2048x1536 : Shape := ⟨3, ![1, 2048, 1536]⟩
abbrev S2048x1536 : Shape := ⟨2, ![2048, 1536]⟩
abbrev S128x2048 : Shape := ⟨2, ![128, 2048]⟩
abbrev S128 : Shape := ⟨1, ![128]⟩
abbrev S16x2048 : Shape := ⟨2, ![16, 2048]⟩
abbrev S2048x32 : Shape := ⟨2, ![2048, 32]⟩
abbrev S128x128 : Shape := ⟨2, ![128, 128]⟩
abbrev S1536x2048 : Shape := ⟨2, ![1536, 2048]⟩
abbrev S1x2048x16x128 : Shape := ⟨4, ![1, 2048, 16, 128]⟩
abbrev S1x2048x16x64 : Shape := ⟨4, ![1, 2048, 16, 64]⟩
abbrev S1x2048x16x32 : Shape := ⟨4, ![1, 2048, 16, 32]⟩
abbrev S1x2048x1x32 : Shape := ⟨4, ![1, 2048, 1, 32]⟩
abbrev S1x2048x16x32x1 : Shape := ⟨5, ![1, 2048, 16, 32, 1]⟩
abbrev S1x2048x16x32x2 : Shape := ⟨5, ![1, 2048, 16, 32, 2]⟩
abbrev S2048x128 : Shape := ⟨2, ![2048, 128]⟩
abbrev S1x2048x128 : Shape := ⟨3, ![1, 2048, 128]⟩
abbrev S_ : Shape := ⟨0, ![]⟩
abbrev S1x2048 : Shape := ⟨2, ![1, 2048]⟩
abbrev S1x2048x1 : Shape := ⟨3, ![1, 2048, 1]⟩
abbrev S1x1x128 : Shape := ⟨3, ![1, 1, 128]⟩
abbrev S1x2048x64 : Shape := ⟨3, ![1, 2048, 64]⟩
abbrev S1x2048x1x64 : Shape := ⟨4, ![1, 2048, 1, 64]⟩
abbrev S1x2048x1x32x1 : Shape := ⟨5, ![1, 2048, 1, 32, 1]⟩
abbrev S1x2048x1x32x2 : Shape := ⟨5, ![1, 2048, 1, 32, 2]⟩
abbrev S2048x16 : Shape := ⟨2, ![2048, 16]⟩
abbrev S1x2048x16 : Shape := ⟨3, ![1, 2048, 16]⟩
abbrev S2048x2048 : Shape := ⟨2, ![2048, 2048]⟩
abbrev S256x2048 : Shape := ⟨2, ![256, 2048]⟩
abbrev S256x128 : Shape := ⟨2, ![256, 128]⟩

abbrev nBuf : Space → Nat
  | .hbm => 112
  | .vmem => 9
  | .smem => 0
  | _ => 0

abbrev bufTy : (tb : Table) → Fin (tcTables nBuf tb) → BufTy
  | .hbm, ⟨0, _⟩ => ⟨S1x2048x2048, .f32⟩
  | .hbm, ⟨1, _⟩ => ⟨S1x2048x1536, .f32⟩
  | .hbm, ⟨2, _⟩ => ⟨S2048x1536, .f32⟩
  | .hbm, ⟨3, _⟩ => ⟨S128x2048, .f32⟩
  | .hbm, ⟨4, _⟩ => ⟨S128, .f32⟩
  | .hbm, ⟨5, _⟩ => ⟨S128, .f32⟩
  | .hbm, ⟨6, _⟩ => ⟨S16x2048, .f32⟩
  | .hbm, ⟨7, _⟩ => ⟨S2048x32, .f32⟩
  | .hbm, ⟨8, _⟩ => ⟨S2048x32, .f32⟩
  | .hbm, ⟨9, _⟩ => ⟨S128x128, .bf16⟩
  | .hbm, ⟨10, _⟩ => ⟨S1536x2048, .f32⟩
  | .hbm, ⟨11, _⟩ => ⟨S1x2048x2048, .f32⟩
  | .hbm, ⟨12, _⟩ => ⟨S1x2048x16x128, .f32⟩
  | .hbm, ⟨13, _⟩ => ⟨S1x2048x16x64, .f32⟩
  | .hbm, ⟨14, _⟩ => ⟨S1x2048x16x32, .f32⟩
  | .hbm, ⟨15, _⟩ => ⟨S1x2048x16x32, .f32⟩
  | .hbm, ⟨16, _⟩ => ⟨S1x2048x1x32, .f32⟩
  | .hbm, ⟨17, _⟩ => ⟨S1x2048x1x32, .f32⟩
  | .hbm, ⟨18, _⟩ => ⟨S1x2048x16x32, .f32⟩
  | .hbm, ⟨19, _⟩ => ⟨S1x2048x16x32, .f32⟩
  | .hbm, ⟨20, _⟩ => ⟨S1x2048x16x32, .f32⟩
  | .hbm, ⟨21, _⟩ => ⟨S1x2048x16x32, .f32⟩
  | .hbm, ⟨22, _⟩ => ⟨S1x2048x16x32, .f32⟩
  | .hbm, ⟨23, _⟩ => ⟨S1x2048x16x32, .f32⟩
  | .hbm, ⟨24, _⟩ => ⟨S1x2048x16x32, .f32⟩
  | .hbm, ⟨25, _⟩ => ⟨S1x2048x16x32, .f32⟩
  | .hbm, ⟨26, _⟩ => ⟨S1x2048x16x32, .f32⟩
  | .hbm, ⟨27, _⟩ => ⟨S1x2048x16x32, .f32⟩
  | .hbm, ⟨28, _⟩ => ⟨S1x2048x16x32x1, .f32⟩
  | .hbm, ⟨29, _⟩ => ⟨S1x2048x16x32x1, .f32⟩
  | .hbm, ⟨30, _⟩ => ⟨S1x2048x16x32x2, .f32⟩
  | .hbm, ⟨31, _⟩ => ⟨S1x2048x16x64, .f32⟩
  | .hbm, ⟨32, _⟩ => ⟨S1x2048x16x64, .f32⟩
  | .hbm, ⟨33, _⟩ => ⟨S1x2048x16x128, .f32⟩
  | .hbm, ⟨34, _⟩ => ⟨S2048x128, .f32⟩
  | .hbm, ⟨35, _⟩ => ⟨S1x2048x128, .f32⟩
  | .hbm, ⟨36, _⟩ => ⟨S_, .f32⟩
  | .hbm, ⟨37, _⟩ => ⟨S1x2048, .f32⟩
  | .hbm, ⟨38, _⟩ => ⟨S1x2048x1, .f32⟩
  | .hbm, ⟨39, _⟩ => ⟨S_, .f32⟩
  | .hbm, ⟨40, _⟩ => ⟨S1x2048x1, .f32⟩
  | .hbm, ⟨41, _⟩ => ⟨S1x2048x1, .f32⟩
  | .hbm, ⟨42, _⟩ => ⟨S_, .i32⟩
  | .hbm, ⟨43, _⟩ => ⟨S_, .f32⟩
  | .hbm, ⟨44, _⟩ => ⟨S1x2048, .f32⟩
  | .hbm, ⟨45, _⟩ => ⟨S1x2048x1, .f32⟩
  | .hbm, ⟨46, _⟩ => ⟨S_, .f32⟩
  | .hbm, ⟨47, _⟩ => ⟨S1x2048x1, .f32⟩
  | .hbm, ⟨48, _⟩ => ⟨S1x2048x1, .f32⟩
  | .hbm, ⟨49, _⟩ => ⟨S1x2048x128, .f32⟩
  | .hbm, ⟨50, _⟩ => ⟨S1x2048x128, .f32⟩
  | .hbm, ⟨51, _⟩ => ⟨S1x2048x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1x2048, .f32⟩
  | .hbm, ⟨57, _⟩ => ⟨S1x2048x1, .f32⟩
  | .hbm, ⟨58, _⟩ => ⟨S1x2048x1, .f32⟩
  | .hbm, ⟨59, _⟩ => ⟨S1x2048x1, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S1x2048x1, .f32⟩
  | .hbm, ⟨65, _⟩ => ⟨S1x2048x1, .f32⟩
  | .hbm, ⟨66, _⟩ => ⟨S1x2048x128, .f32⟩
  | .hbm, ⟨67, _⟩ => ⟨S1x2048x128, .f32⟩
  | .hbm, ⟨68, _⟩ => ⟨S_, .f32⟩
  | .hbm, ⟨69, _⟩ => ⟨S1x2048x1, .f32⟩
  | .hbm, ⟨70, _⟩ => ⟨S1x2048x1, .f32⟩
  | .hbm, ⟨71, _⟩ => ⟨S1x2048x1, .f32⟩
  | .hbm, ⟨72, _⟩ => ⟨S1x2048x128, .f32⟩
  | .hbm, ⟨73, _⟩ => ⟨S1x2048x128, .f32⟩
  | .hbm, ⟨74, _⟩ => ⟨S1x1x128, .f32⟩
  | .hbm, ⟨75, _⟩ => ⟨S1x2048x128, .f32⟩
  | .hbm, ⟨76, _⟩ => ⟨S1x2048x128, .f32⟩
  | .hbm, ⟨77, _⟩ => ⟨S1x1x128, .f32⟩
  | .hbm, ⟨78, _⟩ => ⟨S1x2048x128, .f32⟩
  | .hbm, ⟨79, _⟩ => ⟨S1x2048x128, .f32⟩
  | .hbm, ⟨80, _⟩ => ⟨S1x2048x64, .f32⟩
  | .hbm, ⟨81, _⟩ => ⟨S1x2048x1x64, .f32⟩
  | .hbm, ⟨82, _⟩ => ⟨S1x2048x1x32, .f32⟩
  | .hbm, ⟨83, _⟩ => ⟨S1x2048x1x32, .f32⟩
  | .hbm, ⟨84, _⟩ => ⟨S1x2048x1x32, .f32⟩
  | .hbm, ⟨85, _⟩ => ⟨S1x2048x1x32, .f32⟩
  | .hbm, ⟨86, _⟩ => ⟨S1x2048x1x32, .f32⟩
  | .hbm, ⟨87, _⟩ => ⟨S1x2048x1x32, .f32⟩
  | .hbm, ⟨88, _⟩ => ⟨S1x2048x1x32, .f32⟩
  | .hbm, ⟨89, _⟩ => ⟨S1x2048x1x32, .f32⟩
  | .hbm, ⟨90, _⟩ => ⟨S1x2048x1x32, .f32⟩
  | .hbm, ⟨91, _⟩ => ⟨S1x2048x1x32, .f32⟩
  | .hbm, ⟨92, _⟩ => ⟨S1x2048x1x32x1, .f32⟩
  | .hbm, ⟨93, _⟩ => ⟨S1x2048x1x32x1, .f32⟩
  | .hbm, ⟨94, _⟩ => ⟨S1x2048x1x32x2, .f32⟩
  | .hbm, ⟨95, _⟩ => ⟨S1x2048x1x64, .f32⟩
  | .hbm, ⟨96, _⟩ => ⟨S1x2048x64, .f32⟩
  | .hbm, ⟨97, _⟩ => ⟨S1x2048x64, .f32⟩
  | .hbm, ⟨98, _⟩ => ⟨S1x2048x128, .f32⟩
  | .hbm, ⟨99, _⟩ => ⟨S2048x16, .f32⟩
  | .hbm, ⟨100, _⟩ => ⟨S1x2048x16, .f32⟩
  | .hbm, ⟨101, _⟩ => ⟨S_, .f32⟩
  | .hbm, ⟨102, _⟩ => ⟨S1x2048x16, .f32⟩
  | .hbm, ⟨103, _⟩ => ⟨S1x2048x16, .f32⟩
  | .hbm, ⟨104, _⟩ => ⟨S2048x16, .f32⟩
  | .hbm, ⟨105, _⟩ => ⟨S_, .f32⟩
  | .hbm, ⟨106, _⟩ => ⟨S2048x16, .f32⟩
  | .hbm, ⟨107, _⟩ => ⟨S2048x16, .f32⟩
  | .hbm, ⟨108, _⟩ => ⟨S2048x2048, .f32⟩
  | .hbm, ⟨109, _⟩ => ⟨S2048x128, .f32⟩
  | .hbm, ⟨110, _⟩ => ⟨S2048x2048, .bf16⟩
  | .hbm, ⟨111, _⟩ => ⟨S2048x128, .bf16⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S128x128, .bf16⟩
  | .local _ .vmem, ⟨5, _⟩ => ⟨S256x2048, .bf16⟩
  | .local _ .vmem, ⟨6, _⟩ => ⟨S256x2048, .bf16⟩
  | .local _ .vmem, ⟨7, _⟩ => ⟨S256x128, .bf16⟩
  | .local _ .vmem, ⟨8, _⟩ => ⟨S256x128, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_v12 : Ref sig .tc := ⟨.hbm, 59, rfl⟩
abbrev main_call0_cst_3 : Ref sig .tc := ⟨.hbm, 60, rfl⟩
abbrev main_call0_v13 : Ref sig .tc := ⟨.hbm, 61, rfl⟩
abbrev main_call0_cst_4 : Ref sig .tc := ⟨.hbm, 62, rfl⟩
abbrev main_call0_call0_v0 : Ref sig .tc := ⟨.hbm, 63, rfl⟩
abbrev main_call0_call0_v1 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_2 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_3 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_4 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72_0 : Ref sig .tc := ⟨.hbm, 110, rfl⟩
abbrev main_v72_1 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceHIdeal.lean ====
abbrev S1x2048x2048 : Shape := ⟨3, ![1, 2048, 2048]⟩
abbrev S1x2048x1536 : Shape := ⟨3, ![1, 2048, 1536]⟩
abbrev S2048x1536 : Shape := ⟨2, ![2048, 1536]⟩
abbrev S128x2048 : Shape := ⟨2, ![128, 2048]⟩
abbrev S128 : Shape := ⟨1, ![128]⟩
abbrev S16x2048 : Shape := ⟨2, ![16, 2048]⟩
abbrev S2048x32 : Shape := ⟨2, ![2048, 32]⟩
abbrev S128x128 : Shape := ⟨2, ![128, 128]⟩
abbrev S1536x2048 : Shape := ⟨2, ![1536, 2048]⟩
abbrev S1x2048x16x128 : Shape := ⟨4, ![1, 2048, 16, 128]⟩
abbrev S1x2048x16x64 : Shape := ⟨4, ![1, 2048, 16, 64]⟩
abbrev S1x2048x16x32 : Shape := ⟨4, ![1, 2048, 16, 32]⟩
abbrev S1x2048x1x32 : Shape := ⟨4, ![1, 2048, 1, 32]⟩
abbrev S1x2048x16x32x1 : Shape := ⟨5, ![1, 2048, 16, 32, 1]⟩
abbrev S1x2048x16x32x2 : Shape := ⟨5, ![1, 2048, 16, 32, 2]⟩
abbrev S2048x128 : Shape := ⟨2, ![2048, 128]⟩
abbrev S1x2048x128 : Shape := ⟨3, ![1, 2048, 128]⟩
abbrev S_ : Shape := ⟨0, ![]⟩
abbrev S1x2048 : Shape := ⟨2, ![1, 2048]⟩
abbrev S1x2048x1 : Shape := ⟨3, ![1, 2048, 1]⟩
abbrev S1x1x128 : Shape := ⟨3, ![1, 1, 128]⟩
abbrev S1x2048x64 : Shape := ⟨3, ![1, 2048, 64]⟩
abbrev S1x2048x1x64 : Shape := ⟨4, ![1, 2048, 1, 64]⟩
abbrev S1x2048x1x32x1 : Shape := ⟨5, ![1, 2048, 1, 32, 1]⟩
abbrev S1x2048x1x32x2 : Shape := ⟨5, ![1, 2048, 1, 32, 2]⟩
abbrev S2048x16 : Shape := ⟨2, ![2048, 16]⟩
abbrev S1x2048x16 : Shape := ⟨3, ![1, 2048, 16]⟩
abbrev S2048x2048 : Shape := ⟨2, ![2048, 2048]⟩

abbrev nBuf : Space → Nat
  | .hbm => 120
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x1536, .f32⟩
  | .hbm, ⟨2, _⟩ => ⟨S2048x1536, .f32⟩
  | .hbm, ⟨3, _⟩ => ⟨S128x2048, .f32⟩
  | .hbm, ⟨4, _⟩ => ⟨S128, .f32⟩
  | .hbm, ⟨5, _⟩ => ⟨S128, .f32⟩
  | .hbm, ⟨6, _⟩ => ⟨S16x2048, .f32⟩
  | .hbm, ⟨7, _⟩ => ⟨S2048x32, .f32⟩
  | .hbm, ⟨8, _⟩ => ⟨S2048x32, .f32⟩
  | .hbm, ⟨9, _⟩ => ⟨S128x128, .f32⟩
  | .hbm, ⟨10, _⟩ => ⟨S1536x2048, .f32⟩
  | .hbm, ⟨11, _⟩ => ⟨S1x2048x2048, .f32⟩
  | .hbm, ⟨12, _⟩ => ⟨S1x2048x16x128, .f32⟩
  | .hbm, ⟨13, _⟩ => ⟨S1x2048x16x64, .f32⟩
  | .hbm, ⟨14, _⟩ => ⟨S1x2048x16x32, .f32⟩
  | .hbm, ⟨15, _⟩ => ⟨S1x2048x16x32, .f32⟩
  | .hbm, ⟨16, _⟩ => ⟨S1x2048x1x32, .f32⟩
  | .hbm, ⟨17, _⟩ => ⟨S1x2048x1x32, .f32⟩
  | .hbm, ⟨18, _⟩ => ⟨S1x2048x16x32, .f32⟩
  | .hbm, ⟨19, _⟩ => ⟨S1x2048x16x32, .f32⟩
  | .hbm, ⟨20, _⟩ => ⟨S1x2048x16x32, .f32⟩
  | .hbm, ⟨21, _⟩ => ⟨S1x2048x16x32, .f32⟩
  | .hbm, ⟨22, _⟩ => ⟨S1x2048x16x32, .f32⟩
  | .hbm, ⟨23, _⟩ => ⟨S1x2048x16x32, .f32⟩
  | .hbm, ⟨24, _⟩ => ⟨S1x2048x16x32, .f32⟩
  | .hbm, ⟨25, _⟩ => ⟨S1x2048x16x32, .f32⟩
  | .hbm, ⟨26, _⟩ => ⟨S1x2048x16x32, .f32⟩
  | .hbm, ⟨27, _⟩ => ⟨S1x2048x16x32, .f32⟩
  | .hbm, ⟨28, _⟩ => ⟨S1x2048x16x32x1, .f32⟩
  | .hbm, ⟨29, _⟩ => ⟨S1x2048x16x32x1, .f32⟩
  | .hbm, ⟨30, _⟩ => ⟨S1x2048x16x32x2, .f32⟩
  | .hbm, ⟨31, _⟩ => ⟨S1x2048x16x64, .f32⟩
  | .hbm, ⟨32, _⟩ => ⟨S1x2048x16x64, .f32⟩
  | .hbm, ⟨33, _⟩ => ⟨S1x2048x16x128, .f32⟩
  | .hbm, ⟨34, _⟩ => ⟨S2048x128, .f32⟩
  | .hbm, ⟨35, _⟩ => ⟨S1x2048x128, .f32⟩
  | .hbm, ⟨36, _⟩ => ⟨S_, .f32⟩
  | .hbm, ⟨37, _⟩ => ⟨S1x2048, .f32⟩
  | .hbm, ⟨38, _⟩ => ⟨S1x2048x1, .f32⟩
  | .hbm, ⟨39, _⟩ => ⟨S_, .f32⟩
  | .hbm, ⟨40, _⟩ => ⟨S1x2048x1, .f32⟩
  | .hbm, ⟨41, _⟩ => ⟨S1x2048x1, .f32⟩
  | .hbm, ⟨42, _⟩ => ⟨S_, .i32⟩
  | .hbm, ⟨43, _⟩ => ⟨S_, .f32⟩
  | .hbm, ⟨44, _⟩ => ⟨S1x2048, .f32⟩
  | .hbm, ⟨45, _⟩ => ⟨S1x2048x1, .f32⟩
  | .hbm, ⟨46, _⟩ => ⟨S_, .f32⟩
  | .hbm, ⟨47, _⟩ => ⟨S1x2048x1, .f32⟩
  | .hbm, ⟨48, _⟩ => ⟨S1x2048x1, .f32⟩
  | .hbm, ⟨49, _⟩ => ⟨S1x2048x128, .f32⟩
  | .hbm, ⟨50, _⟩ => ⟨S1x2048x128, .f32⟩
  | .hbm, ⟨51, _⟩ => ⟨S1x2048x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1x2048, .f32⟩
  | .hbm, ⟨57, _⟩ => ⟨S1x2048x1, .f32⟩
  | .hbm, ⟨58, _⟩ => ⟨S1x2048x1, .f32⟩
  | .hbm, ⟨59, _⟩ => ⟨S1x2048x1, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S1x2048x1, .f32⟩
  | .hbm, ⟨65, _⟩ => ⟨S1x2048x1, .f32⟩
  | .hbm, ⟨66, _⟩ => ⟨S1x2048x128, .f32⟩
  | .hbm, ⟨67, _⟩ => ⟨S1x2048x128, .f32⟩
  | .hbm, ⟨68, _⟩ => ⟨S_, .f32⟩
  | .hbm, ⟨69, _⟩ => ⟨S1x2048x1, .f32⟩
  | .hbm, ⟨70, _⟩ => ⟨S1x2048x1, .f32⟩
  | .hbm, ⟨71, _⟩ => ⟨S1x2048x1, .f32⟩
  | .hbm, ⟨72, _⟩ => ⟨S1x2048x128, .f32⟩
  | .hbm, ⟨73, _⟩ => ⟨S1x2048x128, .f32⟩
  | .hbm, ⟨74, _⟩ => ⟨S1x1x128, .f32⟩
  | .hbm, ⟨75, _⟩ => ⟨S1x2048x128, .f32⟩
  | .hbm, ⟨76, _⟩ => ⟨S1x2048x128, .f32⟩
  | .hbm, ⟨77, _⟩ => ⟨S1x1x128, .f32⟩
  | .hbm, ⟨78, _⟩ => ⟨S1x2048x128, .f32⟩
  | .hbm, ⟨79, _⟩ => ⟨S1x2048x128, .f32⟩
  | .hbm, ⟨80, _⟩ => ⟨S1x2048x64, .f32⟩
  | .hbm, ⟨81, _⟩ => ⟨S1x2048x1x64, .f32⟩
  | .hbm, ⟨82, _⟩ => ⟨S1x2048x1x32, .f32⟩
  | .hbm, ⟨83, _⟩ => ⟨S1x2048x1x32, .f32⟩
  | .hbm, ⟨84, _⟩ => ⟨S1x2048x1x32, .f32⟩
  | .hbm, ⟨85, _⟩ => ⟨S1x2048x1x32, .f32⟩
  | .hbm, ⟨86, _⟩ => ⟨S1x2048x1x32, .f32⟩
  | .hbm, ⟨87, _⟩ => ⟨S1x2048x1x32, .f32⟩
  | .hbm, ⟨88, _⟩ => ⟨S1x2048x1x32, .f32⟩
  | .hbm, ⟨89, _⟩ => ⟨S1x2048x1x32, .f32⟩
  | .hbm, ⟨90, _⟩ => ⟨S1x2048x1x32, .f32⟩
  | .hbm, ⟨91, _⟩ => ⟨S1x2048x1x32, .f32⟩
  | .hbm, ⟨92, _⟩ => ⟨S1x2048x1x32x1, .f32⟩
  | .hbm, ⟨93, _⟩ => ⟨S1x2048x1x32x1, .f32⟩
  | .hbm, ⟨94, _⟩ => ⟨S1x2048x1x32x2, .f32⟩
  | .hbm, ⟨95, _⟩ => ⟨S1x2048x1x64, .f32⟩
  | .hbm, ⟨96, _⟩ => ⟨S1x2048x64, .f32⟩
  | .hbm, ⟨97, _⟩ => ⟨S1x2048x64, .f32⟩
  | .hbm, ⟨98, _⟩ => ⟨S1x2048x128, .f32⟩
  | .hbm, ⟨99, _⟩ => ⟨S1x2048x16x128, .f32⟩
  | .hbm, ⟨100, _⟩ => ⟨S_, .f32⟩
  | .hbm, ⟨101, _⟩ => ⟨S1x2048x16x128, .f32⟩
  | .hbm, ⟨102, _⟩ => ⟨S1x2048x16x128, .f32⟩
  | .hbm, ⟨103, _⟩ => ⟨S1x2048x128, .f32⟩
  | .hbm, ⟨104, _⟩ => ⟨S_, .f32⟩
  | .hbm, ⟨105, _⟩ => ⟨S1x2048x128, .f32⟩
  | .hbm, ⟨106, _⟩ => ⟨S1x2048x128, .f32⟩
  | .hbm, ⟨107, _⟩ => ⟨S2048x16, .f32⟩
  | .hbm, ⟨108, _⟩ => ⟨S1x2048x16, .f32⟩
  | .hbm, ⟨109, _⟩ => ⟨S_, .f32⟩
  | .hbm, ⟨110, _⟩ => ⟨S1x2048x16, .f32⟩
  | .hbm, ⟨111, _⟩ => ⟨S1x2048x16, .f32⟩
  | .hbm, ⟨112, _⟩ => ⟨S_, .f32⟩
  | .hbm, ⟨113, _⟩ => ⟨S1x2048x16, .f32⟩
  | .hbm, ⟨114, _⟩ => ⟨S1x2048x16, .f32⟩
  | .hbm, ⟨115, _⟩ => ⟨S2048x2048, .f32⟩
  | .hbm, ⟨116, _⟩ => ⟨S2048x2048, .bf16⟩
  | .hbm, ⟨117, _⟩ => ⟨S2048x128, .f32⟩
  | .hbm, ⟨118, _⟩ => ⟨S2048x128, .bf16⟩
  | .hbm, ⟨119, _⟩ => ⟨S2048x16, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_v12 : Ref sig .tc := ⟨.hbm, 59, rfl⟩
abbrev main_call0_cst_3 : Ref sig .tc := ⟨.hbm, 60, rfl⟩
abbrev main_call0_v13 : Ref sig .tc := ⟨.hbm, 61, rfl⟩
abbrev main_call0_cst_4 : Ref sig .tc := ⟨.hbm, 62, rfl⟩
abbrev main_call0_call0_v0 : Ref sig .tc := ⟨.hbm, 63, rfl⟩
abbrev main_call0_call0_v1 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_2 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_3 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_4 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_5 : Ref sig .tc := ⟨.hbm, 109, rfl⟩
abbrev main_v71 : Ref sig .tc := ⟨.hbm, 110, rfl⟩
abbrev main_v72 : Ref sig .tc := ⟨.hbm, 111, rfl⟩
abbrev main_cst_6 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩

abbrev nD : Nat := 1
abbrev τ : Topo := Topo.v7x

variable {F : FTy → Type} [FloatOps F]
-- ==== Proof.Stage.lean ====
module

public import proofs.«01_k».proof.Proof.Gen.Kernel2Ideal.Value

@[expose] public section

/-! # The stages of the network on whole arrays, in the operations the program is printed in -/

namespace Cert.Stage

open Idealize.ShloMosaic

/-- A block of 256 rows of `W` columns. -/
abbrev sh (W : ℕ) : Shape := ⟨2, ![256, W]⟩

/-- One row of `W` columns. -/
abbrev ln (W : ℕ) : Shape := ⟨2, ![1, W]⟩

variable {F : FTy → Type} [FloatOps F] {α : Type}

/-- The side conditions of the operations on one row of `W` columns. -/
structure Line (W : ℕ) : Prop where
  iota : (ln W).Iotas .tc 32 [1]
  cast : (ln W).ShapeCasts (ln W)
  self : (ln W).Broadcasts (ln W)
  down : (ln W).Broadcasts (sh W)
  all : (sh W).Broadcasts (sh W)

/-- The column numbers. -/
def cols (W : ℕ) (L : Line W) : IVec (ln W) 32 := iota .tc (ln W) 32 [1] L.iota

/-- Where the column number has no bit of `j`. -/
def low (W : ℕ) (L : Line W) (j : BitVec 32) : IVec (ln W) 1 :=
  cmpi .eq (andi (cols W L) (broadcast (ln W) j)) (broadcast (ln W) 0#32)

/-- The column number modulo 512, as the division with a remainder is printed. -/
def colMod (W : ℕ) (L : Line W) : IVec (ln W) 32 :=
  let r := remsi (cols W L) (broadcast (ln W) 512#32)
  select
    (andi
      (xori (cmpi .slt r (broadcast (ln W) 0#32))
        (broadcastTo (ln W) (broadcast (ln W) (Scalar.cmpi .slt 512#32 0#32)) L.self))
      (cmpi .ne r (broadcast (ln W) 0#32)))
    (addi r (broadcast (ln W) 512#32)) r

/-- The direction of the phase of blocks of `k` columns. -/
def phaseDir (W : ℕ) (L : Line W) (k : BitVec 32) (base : IVec (ln W) 1) : IVec (ln W) 1 :=
  xori (cmpi .ne (andi (colMod W L) (broadcast (ln W) k)) (broadcast (ln W) 0#32)) base

/-- The side conditions of a rotation by `j` columns. -/
structure Roll (W j : ℕ) : Prop where
  le : j ≤ W
  tl : (sh W).Slices ![0, j] (sh (W - j))
  hd : (sh W).Slices ![0, 0] (sh j)
  en : (sh W).Slices ![0, W - j] (sh j)
  md : (sh W).Slices ![0, 0] (sh (W - j))
  lcat : Shape.Concatenates [sh (W - j), sh j] (sh W) 1
  rcat : Shape.Concatenates [sh j, sh (W - j)] (sh W) 1

/-- The partner of each column at distance `j`, taken from the two rotations by `j`. -/
def partner (W j : ℕ) (L : Line W) (R : Roll W j) (m : IVec (ln W) 1) (v : (sh W).Idx → α) : (sh W).Idx → α :=
  select (broadcastTo (sh W) (shapeCast (ln W) m L.cast) L.down)
    (concatenate (sh W) 1 [⟨sh (W - j), extractStridedSlice (sh (W - j)) ![0, j] v R.tl⟩,
      ⟨sh j, extractStridedSlice (sh j) ![0, 0] v R.hd⟩] R.lcat)
    (concatenate (sh W) 1 [⟨sh j, extractStridedSlice (sh j) ![0, W - j] v R.en⟩,
      ⟨sh (W - j), extractStridedSlice (sh (W - j)) ![0, 0] v R.md⟩] R.rcat)

/-- The side conditions of an exchange of the `N` blocks of 128 columns. -/
structure Swap (W N g : ℕ) : Prop where
  blk : ∀ n : Fin N, (sh W).Slices ![0, (n.val ^^^ g) * 128] (sh 128)
  cat : Shape.Concatenates ((List.ofFn fun _ : Fin N => sh 128)) (sh W) 1

/-- The partner of each column where the distance is `g` blocks of 128 columns. -/
def swap (W N g : ℕ) (S : Swap W N g) (v : (sh W).Idx → α) : (sh W).Idx → α :=
  concatenate (sh W) 1
    (List.ofFn fun n : Fin N => (⟨sh 128, extractStridedSlice (sh 128) ![0, (n.val ^^^ g) * 128] v (S.blk n)⟩ :
      (s : Shape) × (s.Idx → α)))
    (by rw [List.map_ofFn]; exact S.cat)

/-- Where a column keeps its own pair. -/
def keep (W : ℕ) (L : Line W) (m desc : IVec (ln W) 1) (key pk : FVec F (sh W) .f32) : IVec (sh W) 1 :=
  xori (xori (cmpf .ogt key pk)
    (broadcastTo (sh W) (broadcastTo (sh W) (xori (xori m desc) (constantI (ln W) 1 1#1)) L.down) L.all))
    (constantI (sh W) 1 1#1)

/-- One stage at a distance below 128. -/
def near (W j : ℕ) (L : Line W) (R : Roll W j) (desc : IVec (ln W) 1) (x : FVec F (sh W) .f32 × IVec (sh W) 32) :
    FVec F (sh W) .f32 × IVec (sh W) 32 :=
  let m := low W L (BitVec.ofNat 32 j)
  let t := keep W L m desc x.1 (partner W j L R m x.1)
  (select t x.1 (partner W j L R m x.1), select t x.2 (partner W j L R m x.2))

/-- One stage at a distance of `g` blocks of 128. -/
def far (W N g : ℕ) (L : Line W) (S : Swap W N g) (desc : IVec (ln W) 1) (x : FVec F (sh W) .f32 × IVec (sh W) 32) :
    FVec F (sh W) .f32 × IVec (sh W) 32 :=
  let m := low W L (BitVec.ofNat 32 (g * 128))
  let t := keep W L m desc x.1 (swap W N g S x.1)
  (select t x.1 (swap W N g S x.1), select t x.2 (swap W N g S x.2))

/-- All side conditions at the width `W` of `N` blocks of 128 columns. -/
structure Width (W N : ℕ) : Prop where
  line : Line W
  r1 : Roll W 1
  r2 : Roll W 2
  r4 : Roll W 4
  r8 : Roll W 8
  r16 : Roll W 16
  r32 : Roll W 32
  r64 : Roll W 64
  s1 : Swap W N 1
  s2 : Swap W N 2

variable (W N : ℕ) (H : Width W N) (d : IVec (ln W) 1) (x : FVec F (sh W) .f32 × IVec (sh W) 32)

/-- The stages at the distances from 1, 2, 4, … down to one. -/
def down1 := near W 1 H.line H.r1 d x
@[inherit_doc down1] def down2 := down1 W N H d (near W 2 H.line H.r2 d x)
@[inherit_doc down1] def down4 := down2 W N H d (near W 4 H.line H.r4 d x)
@[inherit_doc down1] def down8 := down4 W N H d (near W 8 H.line H.r8 d x)
@[inherit_doc down1] def down16 := down8 W N H d (near W 16 H.line H.r16 d x)
@[inherit_doc down1] def down32 := down16 W N H d (near W 32 H.line H.r32 d x)
@[inherit_doc down1] def down64 := down32 W N H d (near W 64 H.line H.r64 d x)
@[inherit_doc down1] def down128 := down64 W N H d (far W N 1 H.line H.s1 d x)
@[inherit_doc down1] def down256 := down128 W N H d (far W N 2 H.line H.s2 d x)

/-- Of two blocks of 512 columns the pairs with the greater keys, position by position. -/
def higher (ka kb : FVec F (sh 512) .f32) (ia ib : IVec (sh 512) 32) : FVec F (sh 512) .f32 × IVec (sh 512) 32 :=
  (select (cmpf .ogt ka kb) ka kb, select (cmpf .ogt ka kb) ia ib)

/-- The columns from `o` to `o + 511`. -/
def part (W o : ℕ) (h : (sh W).Slices ![0, o] (sh 512)) (v : (sh W).Idx → α) : (sh 512).Idx → α :=
  extractStridedSlice (sh 512) ![0, o] v h

theorem beside_concatenates : Shape.Concatenates [sh 512, sh 512] (sh 1024) 1 := by decide

/-- Two blocks of 512 columns side by side. -/
def beside (a b : (sh 512).Idx → α) : (sh 1024).Idx → α :=
  concatenate (sh 1024) 1 [⟨sh 512, a⟩, ⟨sh 512, b⟩] beside_concatenates

/-- Three chunks become two. -/
def join3 (x : FVec F (sh 1536) .f32 × IVec (sh 1536) 32) : FVec F (sh 1024) .f32 × IVec (sh 1024) 32 :=
  let y := higher (part 1536 0 (by decide) x.1) (part 1536 512 (by decide) x.1)
    (part 1536 0 (by decide) x.2) (part 1536 512 (by decide) x.2)
  (beside y.1 (part 1536 1024 (by decide) x.1), beside y.2 (part 1536 1024 (by decide) x.2))

/-- Two chunks become one. -/
def join2 (x : FVec F (sh 1024) .f32 × IVec (sh 1024) 32) : FVec F (sh 512) .f32 × IVec (sh 512) 32 :=
  higher (part 1024 0 (by decide) x.1) (part 1024 512 (by decide) x.1)
    (part 1024 0 (by decide) x.2) (part 1024 512 (by decide) x.2)

theorem width1536 : Width 1536 12 := by
  constructor <;> constructor <;> decide

theorem width1024 : Width 1024 8 := by
  constructor <;> constructor <;> decide

theorem width512 : Width 512 4 := by
  constructor <;> constructor <;> decide

end Cert.Stage
-- ==== Proof.Tie.lean ====
module

public import proofs.«01_k».proof.Proof.Stage

@[expose] public section

/-! # The values of the run are the stages -/

namespace Cert.Stage

open Idealize.ShloMosaic Cert.Kernel2Ideal Cert.Kernel2Ideal.Gen Cert.Kernel2Ideal.Gen.kernelRun0_A

variable {F : FTy → Type} [FloatOps F] (c : Dev nD) (i : grid0.Coords)
  (a1 : Memref sig .tc .vmem S256x2048 .bf16) (h1 : a1.IsWhole) (a2 : Memref sig .tc .vmem S1536x128 .bf16) (h2 : a2.IsWhole)
  (a3 : Memref sig .tc .vmem S256x16 .f32) (h3 : a3.IsWhole)
  (x0 : Vec F S256x2048 .bf16) (x1 : Vec F S1536x128 .bf16) (x2 : Vec F S256x16 .f32)

/-- The direction of a phase before the first merge. -/
def dirs (k : BitVec 32) : IVec (ln 1536) 1 :=
  phaseDir 1536 width1536.line k (cmpi .slt (cols 1536 width1536.line) (broadcast (ln 1536) 512#32))

theorem phase1 : (sl.v215 (F := F) c i a1 h1 a2 h2 a3 h3 x0 x1 x2, sl.v216 (F := F) c i a1 h1 a2 h2 a3 h3 x0 x1 x2) =
    down1 1536 12 width1536 (dirs 2#32) (sl.r_5 c i a1 h1 a2 h2 a3 h3 x0 x1 x2, k0_pay7) := rfl

theorem phase2 : (sl.r_11 (F := F) c i a1 h1 a2 h2 a3 h3 x0 x1 x2, sl.r_12 (F := F) c i a1 h1 a2 h2 a3 h3 x0 x1 x2) =
    down2 1536 12 width1536 (dirs 4#32) (sl.v215 c i a1 h1 a2 h2 a3 h3 x0 x1 x2, sl.v216 c i a1 h1 a2 h2 a3 h3 x0 x1 x2) := rfl

theorem phase3 : (sl.r_19 (F := F) c i a1 h1 a2 h2 a3 h3 x0 x1 x2, sl.r_20 (F := F) c i a1 h1 a2 h2 a3 h3 x0 x1 x2) =
    down4 1536 12 width1536 (dirs 8#32) (sl.r_11 c i a1 h1 a2 h2 a3 h3 x0 x1 x2, sl.r_12 c i a1 h1 a2 h2 a3 h3 x0 x1 x2) := rfl

theorem phase4 : (sl.r_28 (F := F) c i a1 h1 a2 h2 a3 h3 x0 x1 x2, sl.r_29 (F := F) c i a1 h1 a2 h2 a3 h3 x0 x1 x2) =
    down8 1536 12 width1536 (dirs 16#32) (sl.r_19 c i a1 h1 a2 h2 a3 h3 x0 x1 x2, sl.r_20 c i a1 h1 a2 h2 a3 h3 x0 x1 x2) := rfl

theorem phase5 : (sl.r_39 (F := F) c i a1 h1 a2 h2 a3 h3 x0 x1 x2, sl.r_40 (F := F) c i a1 h1 a2 h2 a3 h3 x0 x1 x2) =
    down16 1536 12 width1536 (dirs 32#32) (sl.r_28 c i a1 h1 a2 h2 a3 h3 x0 x1 x2, sl.r_29 c i a1 h1 a2 h2 a3 h3 x0 x1 x2) := rfl

theorem phase6 : (sl.r_55 (F := F) c i a1 h1 a2 h2 a3 h3 x0 x1 x2, sl.r_56 (F := F) c i a1 h1 a2 h2 a3 h3 x0 x1 x2) =
    down32 1536 12 width1536 (dirs 64#32) (sl.r_39 c i a1 h1 a2 h2 a3 h3 x0 x1 x2, sl.r_40 c i a1 h1 a2 h2 a3 h3 x0 x1 x2) := rfl

theorem phase7 : (sl.r_72 (F := F) c i a1 h1 a2 h2 a3 h3 x0 x1 x2, sl.r_73 (F := F) c i a1 h1 a2 h2 a3 h3 x0 x1 x2) =
    down64 1536 12 width1536 (dirs 128#32) (sl.r_55 c i a1 h1 a2 h2 a3 h3 x0 x1 x2, sl.r_56 c i a1 h1 a2 h2 a3 h3 x0 x1 x2) := rfl

theorem phase8 : (sl.v2418 (F := F) c i a1 h1 a2 h2 a3 h3 x0 x1 x2, sl.v2419 (F := F) c i a1 h1 a2 h2 a3 h3 x0 x1 x2) =
    down128 1536 12 width1536 (dirs 256#32) (sl.r_72 c i a1 h1 a2 h2 a3 h3 x0 x1 x2, sl.r_73 c i a1 h1 a2 h2 a3 h3 x0 x1 x2) := rfl

theorem phase9 : (sl.r_123 (F := F) c i a1 h1 a2 h2 a3 h3 x0 x1 x2, sl.r_124 (F := F) c i a1 h1 a2 h2 a3 h3 x0 x1 x2) =
    join3 (down256 1536 12 width1536 (dirs 512#32) (sl.v2418 c i a1 h1 a2 h2 a3 h3 x0 x1 x2, sl.v2419 c i a1 h1 a2 h2 a3 h3 x0 x1 x2)) := rfl

/-- The direction at two chunks: the first to the front, the second to the back. -/
def dirTwo : IVec (ln 1024) 1 := low 1024 width1024.line 512#32

/-- The direction at one chunk. -/
def dirOne : IVec (ln 512) 1 := broadcast (ln 512) 1#1

theorem phase10 : (sl.r_137 (F := F) c i a1 h1 a2 h2 a3 h3 x0 x1 x2, sl.r_138 (F := F) c i a1 h1 a2 h2 a3 h3 x0 x1 x2) =
    near 1024 32 width1024.line width1024.r32 dirTwo (near 1024 64 width1024.line width1024.r64 dirTwo
      (far 1024 8 1 width1024.line width1024.s1 dirTwo (far 1024 8 2 width1024.line width1024.s2 dirTwo
        (sl.r_123 c i a1 h1 a2 h2 a3 h3 x0 x1 x2, sl.r_124 c i a1 h1 a2 h2 a3 h3 x0 x1 x2)))) := rfl

theorem phase10' : (sl.r_148 (F := F) c i a1 h1 a2 h2 a3 h3 x0 x1 x2, sl.r_149 (F := F) c i a1 h1 a2 h2 a3 h3 x0 x1 x2) =
    near 1024 2 width1024.line width1024.r2 dirTwo (near 1024 4 width1024.line width1024.r4 dirTwo
      (near 1024 8 width1024.line width1024.r8 dirTwo (near 1024 16 width1024.line width1024.r16 dirTwo
        (sl.r_137 c i a1 h1 a2 h2 a3 h3 x0 x1 x2, sl.r_138 c i a1 h1 a2 h2 a3 h3 x0 x1 x2)))) := rfl

theorem join10 : (sl.r_153 (F := F) c i a1 h1 a2 h2 a3 h3 x0 x1 x2, sl.r_154 (F := F) c i a1 h1 a2 h2 a3 h3 x0 x1 x2) =
    far 512 4 2 width512.line width512.s2 dirOne (join2 (near 1024 1 width1024.line width1024.r1 dirTwo
      (sl.r_148 c i a1 h1 a2 h2 a3 h3 x0 x1 x2, sl.r_149 c i a1 h1 a2 h2 a3 h3 x0 x1 x2))) := rfl

/-- The values that are stored: a key below -1e8 becomes -1e9. -/
def final (key : FVec F (sh 512) .f32) : FVec F (sh 512) .f32 :=
  select (cmpf .olt key (broadcast (sh 512) (Scalar.ofBits .f32 0xCCBEBC20#32)))
    (broadcast (sh 512) (Scalar.ofBits .f32 0xCE6E6B28#32)) key

theorem phase11 : (k0_pay2 (F := F) (sl.r_179 c i a1 h1 a2 h2 a3 h3 x0 x1 x2) (sl.r_181 c i a1 h1 a2 h2 a3 h3 x0 x1 x2) (sl.r_183 c i a1 h1 a2 h2 a3 h3 x0 x1 x2),
      k0_pay1 (sl.r_180 (F := F) c i a1 h1 a2 h2 a3 h3 x0 x1 x2) (sl.r_182 c i a1 h1 a2 h2 a3 h3 x0 x1 x2) (sl.r_183 c i a1 h1 a2 h2 a3 h3 x0 x1 x2)) =
    ((final (down128 512 4 width512 dirOne (sl.r_153 c i a1 h1 a2 h2 a3 h3 x0 x1 x2, sl.r_154 c i a1 h1 a2 h2 a3 h3 x0 x1 x2)).1),
      (down128 512 4 width512 dirOne (sl.r_153 c i a1 h1 a2 h2 a3 h3 x0 x1 x2, sl.r_154 c i a1 h1 a2 h2 a3 h3 x0 x1 x2)).2) := rfl

/-- The whole network on a block. -/
def network (x : FVec F (sh 1536) .f32 × IVec (sh 1536) 32) : FVec F (sh 512) .f32 × IVec (sh 512) 32 :=
  let x := down1 1536 12 width1536 (dirs 2#32) x
  let x := down2 1536 12 width1536 (dirs 4#32) x
  let x := down4 1536 12 width1536 (dirs 8#32) x
  let x := down8 1536 12 width1536 (dirs 16#32) x
  let x := down16 1536 12 width1536 (dirs 32#32) x
  let x := down32 1536 12 width1536 (dirs 64#32) x
  let x := down64 1536 12 width1536 (dirs 128#32) x
  let x := down128 1536 12 width1536 (dirs 256#32) x
  let x := down256 1536 12 width1536 (dirs 512#32) x
  let x := down256 1024 8 width1024 dirTwo (join3 x)
  down256 512 4 width512 dirOne (join2 x)

/-- The stored values are the network on the scores. -/
theorem stored : (k0_pay2 (F := F) (sl.r_179 c i a1 h1 a2 h2 a3 h3 x0 x1 x2) (sl.r_181 c i a1 h1 a2 h2 a3 h3 x0 x1 x2) (sl.r_183 c i a1 h1 a2 h2 a3 h3 x0 x1 x2),
      k0_pay1 (sl.r_180 (F := F) c i a1 h1 a2 h2 a3 h3 x0 x1 x2) (sl.r_182 c i a1 h1 a2 h2 a3 h3 x0 x1 x2) (sl.r_183 c i a1 h1 a2 h2 a3 h3 x0 x1 x2)) =
    (final (network (sl.r_5 c i a1 h1 a2 h2 a3 h3 x0 x1 x2, k0_pay7)).1, (network (F := F) (sl.r_5 c i a1 h1 a2 h2 a3 h3 x0 x1 x2, k0_pay7)).2) := by
  rw [phase11, join10, phase10', phase10, phase9, phase8, phase7, phase6, phase5, phase4, phase3, phase2, phase1]
  rfl

end Cert.Stage
-- ==== Proof.Net.lean ====
module

public import Mathlib.Algebra.BigOperators.Fin
public import Mathlib.Algebra.Order.BigOperators.Group.Finset
public import Mathlib.Tactic.Ring
public import Mathlib.Tactic.Tauto

@[expose] public section

/-! # The sorting network on truth values

A stage of the network compares position `p` with its partner at distance `j` and keeps the greater of the two keys
in one direction, the smaller in the other. Read through a threshold ("the key is at least `t`") a stage works on
truth values: the greater key is above the threshold when one of the two is, the smaller when both are. -/

namespace Cert.Net

/-- The position compared with `p` at distance `j`. -/
def par (j p : ℕ) : ℕ := if p / j % 2 = 0 then p + j else p - j

/-- One stage on truth values: `or` where the position and the direction agree, `and` elsewhere. -/
def cx (j : ℕ) (d : ℕ → Prop) (f : ℕ → Prop) : ℕ → Prop := fun p =>
  ((p / j % 2 = 0 ↔ d p) ∧ (f p ∨ f (par j p))) ∨ (¬(p / j % 2 = 0 ↔ d p) ∧ f p ∧ f (par j p))

/-- Several stages, the first in front. -/
def run : List (ℕ × (ℕ → Prop)) → (ℕ → Prop) → ℕ → Prop
  | [], f => f
  | s :: l, f => run l (cx s.1 s.2 f)

/-- The stages at distances `2 ^ (n - 1)`, …, 2, 1 in one direction. -/
def mergeL : ℕ → (ℕ → Prop) → List (ℕ × (ℕ → Prop))
  | 0, _ => []
  | n + 1, d => (2 ^ n, d) :: mergeL n d

open Classical in
/-- 1 for a true statement and 0 for a false one. -/
noncomputable def ind (P : Prop) : ℕ := if P then 1 else 0

theorem ind_pos {P : Prop} (h : P) : ind P = 1 := if_pos h
theorem ind_neg {P : Prop} (h : ¬P) : ind P = 0 := if_neg h
theorem ind_le (P : Prop) : ind P ≤ 1 := by unfold ind; split <;> omega

/-- How many of the `N` positions from `o` on are true. -/
noncomputable def cnt (f : ℕ → Prop) (o N : ℕ) : ℕ := ∑ p ∈ Finset.range N, ind (f (o + p))

/-- The block at `o` is true on one interval, or false on one. -/
def Bit (f : ℕ → Prop) (o N : ℕ) : Prop :=
  ∃ a b : ℕ, ∃ c : Prop, a ≤ b ∧ b ≤ N ∧ ∀ p < N, (f (o + p) ↔ ((a ≤ p ∧ p < b) ↔ c))

/-- The block at `o` holds `a` true positions, all in front (`D`) or all at the back. -/
def Srt (D : Prop) (f : ℕ → Prop) (o N a : ℕ) : Prop :=
  a ≤ N ∧ (D → ∀ p < N, (f (o + p) ↔ p < a)) ∧ (¬D → ∀ p < N, (f (o + p) ↔ N ≤ p + a))

theorem low_at {j m r : ℕ} (hr : r < j) : (2 * j * m + r) / j % 2 = 0 := by
  have h : (2 * j * m + r) / j = 2 * m := by
    rw [show 2 * j * m + r = r + j * (2 * m) by ring, Nat.add_mul_div_left _ _ (by omega), Nat.div_eq_of_lt hr, zero_add]
  omega

theorem high_at {j m r : ℕ} (hr : r < j) : (2 * j * m + (j + r)) / j % 2 = 1 := by
  have h : (2 * j * m + (j + r)) / j = 2 * m + 1 := by
    rw [show 2 * j * m + (j + r) = r + j * (2 * m + 1) by ring, Nat.add_mul_div_left _ _ (by omega),
      Nat.div_eq_of_lt hr, zero_add]
  omega

theorem par_low {j m r : ℕ} (hr : r < j) : par j (2 * j * m + r) = 2 * j * m + (j + r) := by
  unfold par; rw [if_pos (low_at hr)]; omega

theorem par_high {j m r : ℕ} (hr : r < j) : par j (2 * j * m + (j + r)) = 2 * j * m + r := by
  unfold par; rw [if_neg (by rw [high_at hr]; omega)]; omega

/-- A stage at distance `M` on the lower half of a block of `2 M` positions with one direction. -/
theorem cx_low {M o : ℕ} {d : ℕ → Prop} {D : Prop} (f : ℕ → Prop) (ho : 2 * M ∣ o) (hd : ∀ p < 2 * M, (d (o + p) ↔ D))
    {p : ℕ} (hp : p < M) :
    cx M d f (o + p) ↔ (D ∧ (f (o + p) ∨ f (o + M + p))) ∨ (¬D ∧ f (o + p) ∧ f (o + M + p)) := by
  obtain ⟨m, rfl⟩ := ho
  have := hd p (by omega)
  unfold cx
  rw [par_low hp, this, low_at hp, show 2 * M * m + (M + p) = 2 * M * m + M + p by omega]
  tauto

/-- A stage at distance `M` on the upper half. -/
theorem cx_high {M o : ℕ} {d : ℕ → Prop} {D : Prop} (f : ℕ → Prop) (ho : 2 * M ∣ o) (hd : ∀ p < 2 * M, (d (o + p) ↔ D))
    {p : ℕ} (hp : p < M) :
    cx M d f (o + M + p) ↔ (D ∧ f (o + p) ∧ f (o + M + p)) ∨ (¬D ∧ (f (o + p) ∨ f (o + M + p))) := by
  obtain ⟨m, rfl⟩ := ho
  have := hd (M + p) (by omega)
  unfold cx
  rw [show 2 * M * m + M + p = 2 * M * m + (M + p) by omega, par_high hp, this, high_at hp]
  simp only [one_ne_zero, false_iff]
  tauto

theorem cnt_add (f : ℕ → Prop) (o M N : ℕ) : cnt f o (M + N) = cnt f o M + cnt f (o + M) N := by
  unfold cnt
  simp only [Finset.sum_range_add, Nat.add_assoc]

theorem cnt_congr {f g : ℕ → Prop} {o N : ℕ} (h : ∀ p < N, (f (o + p) ↔ g (o + p))) : cnt f o N = cnt g o N := by
  unfold cnt
  exact Finset.sum_congr rfl fun p hp => by rw [propext (h p (Finset.mem_range.1 hp))]

theorem cnt_le (f : ℕ → Prop) (o N : ℕ) : cnt f o N ≤ N := by
  unfold cnt
  calc _ ≤ ∑ p ∈ Finset.range N, 1 := Finset.sum_le_sum fun p _ => ind_le _
    _ = N := by simp

theorem cnt_front {f : ℕ → Prop} {o N a : ℕ} (ha : a ≤ N) (h : ∀ p < N, (f (o + p) ↔ p < a)) : cnt f o N = a := by
  obtain ⟨b, rfl⟩ := Nat.exists_eq_add_of_le ha
  unfold cnt
  rw [Finset.sum_range_add, Finset.sum_congr rfl (g := fun _ => 1) fun p hp => by
      have := Finset.mem_range.1 hp
      rw [ind_pos ((h p (by omega)).2 this)],
    Finset.sum_congr (s₁ := Finset.range b) rfl (g := fun _ => 0) fun p hp => by
      have := Finset.mem_range.1 hp
      rw [ind_neg (fun c => by have := (h (a + p) (by omega)).1 c; omega)]]
  simp

theorem cnt_back {f : ℕ → Prop} {o N a : ℕ} (ha : a ≤ N) (h : ∀ p < N, (f (o + p) ↔ N ≤ p + a)) : cnt f o N = a := by
  obtain ⟨b, rfl⟩ := Nat.exists_eq_add_of_le' ha
  unfold cnt
  rw [Finset.sum_range_add, Finset.sum_congr rfl (g := fun _ => 0) fun p hp => by
      have := Finset.mem_range.1 hp
      rw [ind_neg (fun c => by have := (h p (by omega)).1 c; omega)],
    Finset.sum_congr (s₁ := Finset.range a) rfl (g := fun _ => 1) fun p hp => by
      have := Finset.mem_range.1 hp
      rw [ind_pos ((h (b + p) (by omega)).2 (by omega))]]
  simp

/-- In a sorted block the number of true positions is the block's count. -/
theorem Srt.cnt_eq {D : Prop} {f : ℕ → Prop} {o N a : ℕ} (h : Srt D f o N a) : cnt f o N = a := by
  by_cases hD : D
  · exact cnt_front h.1 (h.2.1 hD)
  · exact cnt_back h.1 (h.2.2 hD)

theorem all_of_cnt {f : ℕ → Prop} {o N : ℕ} (h : cnt f o N = N) : ∀ p < N, f (o + p) := by
  intro p hp
  by_contra hn
  unfold cnt at h
  have : (∑ p ∈ Finset.range N, ind (f (o + p))) < ∑ p ∈ Finset.range N, 1 :=
    Finset.sum_lt_sum (fun q _ => ind_le _) ⟨p, Finset.mem_range.2 hp, by rw [ind_neg hn]; omega⟩
  simp only [Finset.sum_const, Finset.card_range, smul_eq_mul, mul_one] at this
  omega

theorem none_of_cnt {f : ℕ → Prop} {o N : ℕ} (h : cnt f o N = 0) : ∀ p < N, ¬f (o + p) := by
  intro p hp hn
  unfold cnt at h
  have := (Finset.sum_eq_zero_iff.1 h) p (Finset.mem_range.2 hp)
  rw [ind_pos hn] at this; omega

theorem cnt_all {f : ℕ → Prop} {o N : ℕ} (h : ∀ p < N, f (o + p)) : cnt f o N = N :=
  cnt_front le_rfl fun p hp => ⟨fun _ => hp, fun _ => h p hp⟩

theorem cnt_none {f : ℕ → Prop} {o N : ℕ} (h : ∀ p < N, ¬f (o + p)) : cnt f o N = 0 :=
  cnt_front (Nat.zero_le _) fun p hp => ⟨fun c => absurd c (h p hp), fun c => absurd c (by omega)⟩

/-- A stage keeps the count of a block. -/
theorem cnt_cx {M o : ℕ} {d : ℕ → Prop} {D : Prop} (f : ℕ → Prop) (ho : 2 * M ∣ o)
    (hd : ∀ p < 2 * M, (d (o + p) ↔ D)) : cnt (cx M d f) o (2 * M) = cnt f o (2 * M) := by
  rw [two_mul, cnt_add, cnt_add]
  unfold cnt
  rw [← Finset.sum_add_distrib, ← Finset.sum_add_distrib]
  refine Finset.sum_congr rfl fun p hp => ?_
  have hp := Finset.mem_range.1 hp
  rw [propext (cx_low f ho hd hp), propext (cx_high f ho hd hp)]
  by_cases hD : D <;> by_cases h1 : f (o + p) <;> by_cases h2 : f (o + M + p) <;> simp [ind, hD, h1, h2]

/-- The half-cleaner in the front direction: after the first stage on a bitonic block one half is constant and the
    other bitonic. -/
theorem half_clean_front {M o : ℕ} {d f : ℕ → Prop} (ho : 2 * M ∣ o) (hd : ∀ p < 2 * M, d (o + p))
    (hb : Bit f o (2 * M)) :
    (Bit (cx M d f) o M ∧ ∀ p < M, ¬cx M d f (o + M + p)) ∨
      ((∀ p < M, cx M d f (o + p)) ∧ Bit (cx M d f) (o + M) M) := by
  obtain ⟨a, b, c, hab, hbN, h⟩ := hb
  have hl : ∀ p < M, (f (o + p) ↔ ((a ≤ p ∧ p < b) ↔ c)) := fun p hp => h p (by omega)
  have hh : ∀ p < M, (f (o + M + p) ↔ ((a ≤ M + p ∧ M + p < b) ↔ c)) := fun p hp => by
    rw [Nat.add_assoc]; exact h (M + p) (by omega)
  have e1 : ∀ p < M, (cx M d f (o + p) ↔ (((a ≤ p ∧ p < b) ↔ c) ∨ ((a ≤ M + p ∧ M + p < b) ↔ c))) := fun p hp => by
    rw [cx_low (D := True) f ho (fun p hp => iff_true_intro (hd p hp)) hp, hl p hp, hh p hp]; simp
  have e2 : ∀ p < M, (cx M d f (o + M + p) ↔ (((a ≤ p ∧ p < b) ↔ c) ∧ ((a ≤ M + p ∧ M + p < b) ↔ c))) :=
    fun p hp => by
      rw [cx_high (D := True) f ho (fun p hp => iff_true_intro (hd p hp)) hp, hl p hp, hh p hp]; simp
  clear h hl hh hd
  by_cases hc : c <;> simp only [hc, iff_true, iff_false] at e1 e2
  · by_cases h1 : b ≤ M
    · exact .inl ⟨⟨a, b, True, hab, h1, fun p hp => by rw [e1 p hp, iff_true]; omega⟩, fun p hp => by rw [e2 p hp]; omega⟩
    by_cases h2 : M ≤ a
    · exact .inl ⟨⟨a - M, b - M, True, by omega, by omega, fun p hp => by rw [e1 p hp, iff_true]; omega⟩,
        fun p hp => by rw [e2 p hp]; omega⟩
    by_cases h3 : b - M ≤ a
    · exact .inl ⟨⟨b - M, a, False, h3, by omega, fun p hp => by rw [e1 p hp, iff_false]; omega⟩,
        fun p hp => by rw [e2 p hp]; omega⟩
    · exact .inr ⟨fun p hp => by rw [e1 p hp]; omega,
        ⟨a, b - M, True, by omega, by omega, fun p hp => by rw [e2 p hp, iff_true]; omega⟩⟩
  · by_cases h1 : b ≤ M
    · exact .inr ⟨fun p hp => by rw [e1 p hp]; omega,
        ⟨a, b, False, hab, h1, fun p hp => by rw [e2 p hp, iff_false]; omega⟩⟩
    by_cases h2 : M ≤ a
    · exact .inr ⟨fun p hp => by rw [e1 p hp]; omega,
        ⟨a - M, b - M, False, by omega, by omega, fun p hp => by rw [e2 p hp, iff_false]; omega⟩⟩
    by_cases h3 : b - M ≤ a
    · exact .inr ⟨fun p hp => by rw [e1 p hp]; omega,
        ⟨b - M, a, True, h3, by omega, fun p hp => by rw [e2 p hp, iff_true]; omega⟩⟩
    · exact .inl ⟨⟨a, b - M, False, by omega, by omega, fun p hp => by rw [e1 p hp, iff_false]; omega⟩,
        fun p hp => by rw [e2 p hp]; omega⟩

/-- Exchanging true and false turns a stage into the stage of the other direction. -/
theorem cx_not (j : ℕ) (d f : ℕ → Prop) (p : ℕ) : cx j (fun q => ¬d q) (fun q => ¬f q) p ↔ ¬cx j d f p := by
  unfold cx; tauto

theorem Bit.not {f : ℕ → Prop} {o N : ℕ} (h : Bit f o N) : Bit (fun p => ¬f p) o N := by
  obtain ⟨a, b, c, hab, hb, h⟩ := h
  exact ⟨a, b, ¬c, hab, hb, fun p hp => by have := h p hp; tauto⟩

theorem Bit.congr {f g : ℕ → Prop} {o N : ℕ} (h : Bit f o N) (e : ∀ p < N, (f (o + p) ↔ g (o + p))) : Bit g o N := by
  obtain ⟨a, b, c, hab, hb, h⟩ := h
  exact ⟨a, b, c, hab, hb, fun p hp => (e p hp).symm.trans (h p hp)⟩

/-- The half-cleaner in either direction. -/
theorem half_clean {M o : ℕ} {d : ℕ → Prop} {D : Prop} {f : ℕ → Prop} (ho : 2 * M ∣ o)
    (hd : ∀ p < 2 * M, (d (o + p) ↔ D)) (hb : Bit f o (2 * M)) :
    (Bit (cx M d f) o M ∧ ∀ p < M, (cx M d f (o + M + p) ↔ ¬D)) ∨
      ((∀ p < M, (cx M d f (o + p) ↔ D)) ∧ Bit (cx M d f) (o + M) M) := by
  by_cases hD : D
  · simpa only [hD, not_true, iff_false, iff_true] using half_clean_front ho (fun p hp => (hd p hp).2 hD) hb
  · have h := half_clean_front (d := fun q => ¬d q) ho (fun p hp c => hD ((hd p hp).1 c)) hb.not
    simp only [cx_not, not_not] at h
    rcases h with ⟨h1, h2⟩ | ⟨h1, h2⟩
    · exact .inl ⟨h1.not.congr fun p _ => by rw [cx_not, not_not], fun p hp => by simp only [hD, not_false_iff, iff_true]; exact h2 p hp⟩
    · exact .inr ⟨fun p hp => by simp only [hD, iff_false]; exact h1 p hp, h2.not.congr fun p _ => by rw [cx_not, not_not]⟩

/-- The merge stages keep the count of a block and sort it when it is bitonic. -/
theorem merge (n : ℕ) : ∀ (o : ℕ) (d : ℕ → Prop) (D : Prop) (f : ℕ → Prop), 2 ^ n ∣ o → (∀ p < 2 ^ n, (d (o + p) ↔ D)) →
    cnt (run (mergeL n d) f) o (2 ^ n) = cnt f o (2 ^ n) ∧
      (Bit f o (2 ^ n) → Srt D (run (mergeL n d) f) o (2 ^ n) (cnt f o (2 ^ n))) := by
  induction n with
  | zero =>
    intro o d D f _ _
    refine ⟨rfl, fun _ => ⟨cnt_le _ _ _, ?_⟩⟩
    simp only [pow_zero, mergeL, run]
    have e : cnt f o 1 = 1 ↔ f (o + 0) :=
      ⟨fun h => all_of_cnt h 0 (by omega), fun h => cnt_all fun p hp => by
        obtain rfl : p = 0 := (by omega)
        exact h⟩
    have := cnt_le f o 1
    constructor <;> intro _ p hp <;> obtain rfl : p = 0 := (by omega) <;> rw [← e] <;> omega
  | succ n ih =>
    intro o d D f ho hd
    rw [pow_succ'] at ho hd ⊢
    have ho1 : 2 ^ n ∣ o := (Nat.dvd_mul_left _ _).trans ho
    have ho2 : 2 ^ n ∣ o + 2 ^ n := Nat.dvd_add_self_right.2 ho1
    obtain ⟨c1, s1⟩ := ih o d D (cx (2 ^ n) d f) ho1 fun p hp => hd p (by omega)
    obtain ⟨c2, s2⟩ := ih (o + 2 ^ n) d D (cx (2 ^ n) d f) ho2 fun p hp => by rw [Nat.add_assoc]; exact hd _ (by omega)
    have hc := cnt_cx f ho hd
    have hcnt : cnt (run (mergeL (n + 1) d) f) o (2 * 2 ^ n) = cnt f o (2 * 2 ^ n) := by
      rw [← hc, two_mul, cnt_add, cnt_add]; exact congrArg₂ (· + ·) c1 c2
    refine ⟨hcnt, fun hb => ⟨cnt_le _ _ _, ?_⟩⟩
    rw [← hc]
    rw [two_mul, cnt_add]
    simp only [mergeL, run]
    generalize hg : cx (2 ^ n) d f = g at *
    generalize hr : run (mergeL n d) g = r at *
    generalize 2 ^ n = M at *
    have split : ∀ P : ℕ → Prop, (∀ p < M, P p) → (∀ p < M, P (M + p)) → ∀ p < M + M, P p := fun P h1 h2 p hp => by
      by_cases h : p < M
      · exact h1 p h
      · have := h2 (p - M) (by omega); rwa [Nat.add_sub_cancel' (by omega)] at this
    rcases (hg ▸ half_clean ho hd hb : _) with ⟨b1, k2⟩ | ⟨k1, b2⟩
    · have s1 := s1 b1
      constructor
      · intro hD
        have z : cnt g (o + M) M = 0 := cnt_none fun p hp => by rw [k2 p hp]; exact not_not_intro hD
        have hz := none_of_cnt (c2.trans z)
        refine split _ (fun p hp => ?_) fun p hp => ?_
        · rw [s1.2.1 hD p hp]; omega
        · rw [← Nat.add_assoc]; have := hz p hp; have := s1.1; simp only [*, false_iff]; omega
      · intro hD
        have z : cnt g (o + M) M = M := cnt_all fun p hp => (k2 p hp).2 hD
        have hz := all_of_cnt (c2.trans z)
        refine split _ (fun p hp => ?_) fun p hp => ?_
        · rw [s1.2.2 hD p hp]; omega
        · rw [← Nat.add_assoc]; have := hz p hp; simp only [*, true_iff]; omega
    · have s2 := s2 b2
      constructor
      · intro hD
        have z : cnt g o M = M := cnt_all fun p hp => (k1 p hp).2 hD
        have hz := all_of_cnt (c1.trans z)
        refine split _ (fun p hp => ?_) fun p hp => ?_
        · have := hz p hp; simp only [*, true_iff]; omega
        · rw [← Nat.add_assoc, s2.2.1 hD p hp]; omega
      · intro hD
        have z : cnt g o M = 0 := cnt_none fun p hp => by rw [k1 p hp]; exact hD
        have hz := none_of_cnt (c1.trans z)
        refine split _ (fun p hp => ?_) fun p hp => ?_
        · have := hz p hp; have := s2.1; simp only [*, false_iff]; omega
        · rw [← Nat.add_assoc, s2.2.2 hD p hp]; omega

end Cert.Net
-- ==== Proof.Sort.lean ====
module

public import proofs.«01_k».proof.Proof.Net
public import Mathlib.Tactic.IntervalCases

@[expose] public section

/-! # The whole network on pairs of a key and a payload -/

namespace Cert.Net

/-- Whether a chunk of 512 columns is sorted to the front in the phase of blocks of `2 ^ i` positions. -/
def dir (base : ℕ → Prop) (i : ℕ) : ℕ → Prop := fun p => p % 512 / 2 ^ i % 2 = 1 ↔ ¬base p

/-- The stages of the first `i` phases. -/
def sortL (base : ℕ → Prop) : ℕ → List (ℕ × (ℕ → Prop))
  | 0 => []
  | i + 1 => sortL base i ++ mergeL (i + 1) (dir base (i + 1))

theorem run_append (l l' : List (ℕ × (ℕ → Prop))) (f : ℕ → Prop) : run (l ++ l') f = run l' (run l f) := by
  induction l generalizing f with
  | nil => rfl
  | cons s l ih => exact ih _

theorem bit_of_srt {D : Prop} {f : ℕ → Prop} {o M a b : ℕ} (h1 : Srt D f o M a) (h2 : Srt (¬D) f (o + M) M b) :
    Bit f o (2 * M) := by
  have split : ∀ P : ℕ → Prop, (∀ p < M, P p) → (∀ p < M, P (M + p)) → ∀ p < 2 * M, P p := fun P h1 h2 p hp => by
    by_cases h : p < M
    · exact h1 p h
    · have := h2 (p - M) (by omega); rwa [Nat.add_sub_cancel' (by omega)] at this
  have ha := h1.1
  have hb := h2.1
  by_cases hD : D
  · refine ⟨a, 2 * M - b, False, by omega, by omega, split _ (fun p hp => ?_) fun p hp => ?_⟩
    · rw [h1.2.1 hD p hp, iff_false]; omega
    · rw [← Nat.add_assoc, h2.2.2 (not_not_intro hD) p hp, iff_false]; omega
  · refine ⟨M - a, M + b, True, by omega, by omega, split _ (fun p hp => ?_) fun p hp => ?_⟩
    · rw [h1.2.2 hD p hp, iff_true]; omega
    · rw [← Nat.add_assoc, h2.2.1 hD p hp, iff_true]; omega

theorem block_const {i o p : ℕ} (hi : i ≤ 9) (ho : 2 ^ i ∣ o) (hp : p < 2 ^ i) :
    (o + p) % 512 / 2 ^ i % 2 = o % 512 / 2 ^ i % 2 ∧ (o + p) / 512 = o / 512 := by
  interval_cases i <;> simp only [Nat.reducePow] at * <;> omega

theorem block_halves {i o : ℕ} (hi : i < 9) (ho : 2 ^ (i + 1) ∣ o) :
    o % 512 / 2 ^ i % 2 = 0 ∧ (o + 2 ^ i) % 512 / 2 ^ i % 2 = 1 ∧ (o + 2 ^ i) / 512 = o / 512 := by
  interval_cases i <;> simp only [Nat.reducePow, Nat.reduceAdd] at * <;> omega

/-- After the first `i` phases every block of `2 ^ i` positions is sorted, in the direction of its phase. -/
theorem sort_blocks {base : ℕ → Prop} (hb : ∀ p q, p / 512 = q / 512 → (base p ↔ base q)) (f : ℕ → Prop) (i : ℕ) :
    i ≤ 9 → ∀ o, 2 ^ i ∣ o → Srt (dir base i o) (run (sortL base i) f) o (2 ^ i) (cnt f o (2 ^ i)) := by
  induction i with
  | zero =>
    intro _ o _
    refine (merge 0 o (fun _ => dir base 0 o) _ f (by simp) fun _ _ => Iff.rfl).2
      ⟨0, 1, f o, by omega, by omega, fun p hp => ?_⟩
    obtain rfl : p = 0 := (by simpa using hp)
    simp
  | succ i ih =>
    intro hi o ho
    have ho1 : 2 ^ i ∣ o := (Nat.pow_dvd_pow 2 (Nat.le_succ i)).trans ho
    have ho2 : 2 ^ i ∣ o + 2 ^ i := Nat.dvd_add_self_right.2 ho1
    obtain ⟨e1, e2, e3⟩ := block_halves (by omega) ho
    have h1 := ih (by omega) o ho1
    have h2 := ih (by omega) (o + 2 ^ i) ho2
    have d1 : dir base i o ↔ base o := by unfold dir; rw [e1]; simp
    have d2 : dir base i (o + 2 ^ i) ↔ ¬base o := by unfold dir; rw [e2, hb _ _ e3]; simp
    rw [d1] at h1
    rw [d2] at h2
    have hc : cnt (run (sortL base i) f) o (2 ^ (i + 1)) = cnt f o (2 ^ (i + 1)) := by
      rw [pow_succ', two_mul, cnt_add, cnt_add, h1.cnt_eq, h2.cnt_eq]
    rw [← hc, sortL, run_append]
    refine (merge (i + 1) o (dir base (i + 1)) (dir base (i + 1) o) _ ho fun p hp => ?_).2 ?_
    · obtain ⟨h, h'⟩ := block_const hi ho hp
      unfold dir; rw [h, hb _ _ h']
    · rw [pow_succ']; exact bit_of_srt h1 h2

variable {α β : Type} [LinearOrder α]

open Classical in
/-- One stage on pairs: the pair of `p` stays where the comparison of the keys and the direction agree. -/
noncomputable def cxp (j : ℕ) (d : ℕ → Prop) (x : ℕ → α × β) : ℕ → α × β := fun p =>
  if (x (par j p)).1 < (x p).1 ↔ (p / j % 2 = 0 ↔ d p) then x p else x (par j p)

/-- Several stages on pairs. -/
noncomputable def runP : List (ℕ × (ℕ → Prop)) → (ℕ → α × β) → ℕ → α × β
  | [], x => x
  | s :: l, x => runP l (cxp s.1 s.2 x)

theorem runP_append (l l' : List (ℕ × (ℕ → Prop))) (x : ℕ → α × β) : runP (l ++ l') x = runP l' (runP l x) := by
  induction l generalizing x with
  | nil => rfl
  | cons s l ih => exact ih _

/-- Read through a threshold a stage on pairs is the stage on truth values. -/
theorem thr_cxp {φ : α → Prop} (hφ : ∀ a b, a ≤ b → φ a → φ b) (j : ℕ) (d : ℕ → Prop) (x : ℕ → α × β) (p : ℕ) :
    φ (cxp j d x p).1 ↔ cx j d (fun q => φ (x q).1) p := by
  unfold cxp cx
  have h1 := hφ (x (par j p)).1 (x p).1
  have h2 := hφ (x p).1 (x (par j p)).1
  by_cases h : (x (par j p)).1 < (x p).1 <;> by_cases h' : (p / j % 2 = 0 ↔ d p)
  · rw [if_pos (by simp only [h, h'])]
    exact ⟨fun k => Or.inl ⟨h', Or.inl k⟩, fun k => k.elim (fun k => k.2.elim id (h1 h.le)) fun k => k.2.1⟩
  · rw [if_neg (by simp only [h, h', iff_false, not_true, not_false_iff])]
    exact ⟨fun k => Or.inr ⟨h', h1 h.le k, k⟩, fun k => k.elim (fun k => absurd k.1 h') fun k => k.2.2⟩
  · rw [if_neg (by simp only [h, h', iff_true, not_false_iff])]
    exact ⟨fun k => Or.inl ⟨h', Or.inr k⟩, fun k => k.elim (fun k => k.2.elim (h2 (not_lt.1 h)) id) fun k => k.2.2⟩
  · rw [if_pos (by simp only [h, h'])]
    exact ⟨fun k => Or.inr ⟨h', k, h2 (not_lt.1 h) k⟩, fun k => k.elim (fun k => absurd k.1 h') fun k => k.2.1⟩

theorem thr_runP {φ : α → Prop} (hφ : ∀ a b, a ≤ b → φ a → φ b) (l : List (ℕ × (ℕ → Prop))) (x : ℕ → α × β) :
    (fun p => φ (runP l x p).1) = run l fun p => φ (x p).1 := by
  induction l generalizing x with
  | nil => rfl
  | cons s l ih =>
    rw [runP, run, ih]
    exact congrArg (run l) (funext fun p => propext (thr_cxp hφ s.1 s.2 x p))

/-- A partner lies below a bound that is a multiple of twice the distance. -/
theorem par_lt {j W p : ℕ} (hj : 0 < j) (hW : 2 * j ∣ W) (hp : p < W) : par j p < W := by
  obtain ⟨m, rfl⟩ := hW
  unfold par
  split
  · rename_i h
    have h1 := Nat.div_add_mod p j
    have h2 := Nat.mod_lt p hj
    have h3 := Nat.div_add_mod (p / j) 2
    have h4 : p / j / 2 < m := by
      by_contra h
      have : 2 * j * m ≤ 2 * j * (p / j / 2) := Nat.mul_le_mul_left _ (not_lt.1 h)
      have : j * (p / j) = 2 * j * (p / j / 2) := by
        conv_lhs => rw [← h3, ‹p / j % 2 = 0›]
        ring
      omega
    have h5 : 2 * j * (p / j / 2 + 1) ≤ 2 * j * m := Nat.mul_le_mul_left _ h4
    have h6 : j * (p / j) = 2 * j * (p / j / 2) := by
      conv_lhs => rw [← h3, h]
      ring
    have h7 : 2 * j * (p / j / 2 + 1) = 2 * j * (p / j / 2) + 2 * j := by ring
    omega
  · omega

/-- The distances of a list of stages fit `W` columns. -/
def Fits (W : ℕ) (l : List (ℕ × (ℕ → Prop))) : Prop := ∀ s ∈ l, 0 < s.1 ∧ 2 * s.1 ∣ W

/-- On `W` columns the stages read only those columns. -/
theorem runP_congr {W : ℕ} {l : List (ℕ × (ℕ → Prop))} (hl : Fits W l) {x y : ℕ → α × β} (h : ∀ p < W, x p = y p) :
    ∀ p < W, runP l x p = runP l y p := by
  induction l generalizing x y with
  | nil => exact h
  | cons s l ih =>
    obtain ⟨h1, h2⟩ := hl s (by simp)
    refine ih (fun t ht => hl t (by simp [ht])) fun p hp => ?_
    unfold cxp
    rw [h p hp, h _ (par_lt h1 h2 hp)]

/-- Every pair of the result is a pair of the operand. -/
theorem runP_mem {W : ℕ} {l : List (ℕ × (ℕ → Prop))} (hl : Fits W l) {P : α × β → Prop} {x : ℕ → α × β}
    (h : ∀ p < W, P (x p)) : ∀ p < W, P (runP l x p) := by
  induction l generalizing x with
  | nil => exact h
  | cons s l ih =>
    obtain ⟨h1, h2⟩ := hl s (by simp)
    refine ih (fun t ht => hl t (by simp [ht])) fun p hp => ?_
    unfold cxp
    split
    · exact h p hp
    · exact h _ (par_lt h1 h2 hp)

theorem fits_mergeL {W n : ℕ} (d : ℕ → Prop) (h : 2 ^ n ∣ W) : Fits W (mergeL n d) := by
  induction n with
  | zero => intro s hs; simp [mergeL] at hs
  | succ n ih =>
    intro s hs
    rcases List.mem_cons.1 hs with rfl | hs
    · exact ⟨Nat.two_pow_pos n, by rwa [← pow_succ']⟩
    · exact ih ((Nat.pow_dvd_pow 2 (Nat.le_succ n)).trans h) s hs

theorem fits_sortL {W i : ℕ} (base : ℕ → Prop) (h : 2 ^ i ∣ W) : Fits W (sortL base i) := by
  induction i with
  | zero => intro s hs; simp [sortL] at hs
  | succ i ih =>
    intro s hs
    rcases List.mem_append.1 hs with hs | hs
    · exact ih ((Nat.pow_dvd_pow 2 (Nat.le_succ i)).trans h) s hs
    · exact fits_mergeL _ h s hs

/-- Of two pairs the one with the greater key, the second when the keys are equal. -/
def top (a b : α × β) : α × β := if b.1 < a.1 then a else b

theorem thr_top {φ : α → Prop} (hφ : ∀ a b, a ≤ b → φ a → φ b) (a b : α × β) : φ (top a b).1 ↔ φ a.1 ∨ φ b.1 := by
  unfold top
  split
  · rename_i h; have := hφ _ _ h.le; tauto
  · rename_i h; have := hφ _ _ (not_lt.1 h); tauto

/-- Three chunks of 512 become two: the greater of the first two, position by position, and the third. -/
def pairs3 (x : ℕ → α × β) : ℕ → α × β := fun p => if p < 512 then top (x p) (x (p + 512)) else x (p + 512)

/-- Two chunks become one. -/
def pairs2 (x : ℕ → α × β) : ℕ → α × β := fun p => top (x p) (x (p + 512))

/-- The network of the kernel on three chunks: sort the chunks, merge the first two, merge with the third. -/
noncomputable def net3 (x : ℕ → α × β) : ℕ → α × β :=
  runP (mergeL 9 fun _ => True) (pairs2 (runP (mergeL 9 fun p => p / 512 % 2 = 0) (pairs3 (runP (sortL (· < 512) 9) x))))

theorem net3_mem {P : α × β → Prop} {x : ℕ → α × β} (h : ∀ p < 1536, P (x p)) : ∀ p < 512, P (net3 x p) := by
  refine runP_mem (fits_mergeL _ (by norm_num)) fun p hp => ?_
  have h2 : ∀ p < 1024, P (runP (mergeL 9 fun p => p / 512 % 2 = 0) (pairs3 (runP (sortL (· < 512) 9) x)) p) := by
    refine runP_mem (fits_mergeL _ (by norm_num)) fun p hp => ?_
    have h3 := runP_mem (fits_sortL (W := 1536) (i := 9) (· < 512) (by norm_num)) h
    unfold pairs3 top
    split
    · split
      · exact h3 _ (by omega)
      · exact h3 _ (by omega)
    · exact h3 _ (by omega)
  unfold pairs2 top
  split
  · exact h2 _ (by omega)
  · exact h2 _ (by omega)

/-- Two sorted blocks, the first to the front and the second to the back, joined position by position. -/
theorem or_bit {f g : ℕ → Prop} {a b : ℕ} (ha : a ≤ 512) (hb : b ≤ 512) (hg : ∀ p < 512, (g p ↔ p < a ∨ 512 ≤ p + b)) :
    Bit g 0 512 ∧ cnt g 0 512 = min 512 (a + b) := by
  constructor
  · by_cases h : 512 ≤ a + b
    · exact ⟨0, 0, False, le_rfl, by omega, fun p hp => by rw [Nat.zero_add, hg p hp, iff_false]; omega⟩
    · exact ⟨a, 512 - b, False, by omega, by omega, fun p hp => by rw [Nat.zero_add, hg p hp, iff_false]; omega⟩
  · by_cases h : 512 ≤ a + b
    · rw [min_eq_left h]
      exact cnt_all fun p hp => by rw [Nat.zero_add, hg p hp]; omega
    · rw [min_eq_right (by omega), show 512 = (512 - b) + b by omega, cnt_add, cnt_front (a := a), cnt_all]
      · intro p hp; rw [hg _ (by omega)]; omega
      · omega
      · intro p hp; rw [hg _ (by omega)]; omega

/-- The keys that reach a threshold stand in front, and as many of them as the operand holds, up to 512. -/
theorem net3_thr {φ : α → Prop} (hφ : ∀ a b, a ≤ b → φ a → φ b) (x : ℕ → α × β) :
    ∀ p < 512, (φ (net3 x p).1 ↔ p < cnt (fun q => φ (x q).1) 0 1536) := by
  set f : ℕ → Prop := fun q => φ (x q).1 with hf
  have hbase : ∀ p q : ℕ, p / 512 = q / 512 → (p < 512 ↔ q < 512) := fun p q h => by omega
  have s := sort_blocks (base := (· < 512)) hbase f 9 le_rfl
  have e1 := thr_runP hφ (sortL (· < 512) 9) x
  rw [← hf] at e1
  set x1 := runP (sortL (· < 512) 9) x
  rw [← e1] at s
  have s0 := s 0 (by norm_num)
  have s1 := s 512 (by norm_num)
  have s2 := s 1024 (by norm_num)
  simp only [dir, Nat.reducePow] at s0 s1 s2
  norm_num at s0 s1 s2
  set a0 := cnt f 0 512
  set a1 := cnt f 512 512
  set a2 := cnt f 1024 512
  have hcnt : cnt f 0 1536 = a0 + a1 + a2 := by
    rw [show 1536 = 512 + 512 + 512 by norm_num, cnt_add, cnt_add]
  have b0 : ∀ p < 512, (φ (x1 p).1 ↔ p < a0) := fun p hp => by simpa using s0.2.1 trivial p hp
  have b1 : ∀ p < 512, (φ (x1 (512 + p)).1 ↔ 512 ≤ p + a1) := fun p hp => s1.2.2 not_false p hp
  have b2 : ∀ p < 512, (φ (x1 (1024 + p)).1 ↔ 512 ≤ p + a2) := fun p hp => s2.2.2 not_false p hp
  have l0 := s0.1
  have l1 := s1.1
  have l2 := s2.1
  -- the first two chunks joined
  have g0 : ∀ p < 512, (φ (pairs3 x1 p).1 ↔ p < a0 ∨ 512 ≤ p + a1) := fun p hp => by
    unfold pairs3; rw [if_pos hp, thr_top hφ, b0 p hp, Nat.add_comm p 512, b1 p hp]
  have g1 : ∀ p < 512, (φ (pairs3 x1 (512 + p)).1 ↔ 512 ≤ p + a2) := fun p hp => by
    unfold pairs3; rw [if_neg (by omega), show 512 + p + 512 = 1024 + p by omega, b2 p hp]
  set f2 : ℕ → Prop := fun p => φ (pairs3 x1 p).1 with hf2
  obtain ⟨t0, c0⟩ := or_bit (f := f2) (g := f2) l0 l1 g0
  have m0 := (merge 9 0 (fun p => p / 512 % 2 = 0) True f2 (by norm_num) fun p hp => by
    simp only [Nat.reducePow] at hp; simp only [iff_true]; omega).2 t0
  have m1 := (merge 9 512 (fun p => p / 512 % 2 = 0) False f2 (by norm_num) fun p hp => by
    simp only [Nat.reducePow] at hp; simp only [iff_false]; omega).2
      ⟨512 - a2, 512, True, by omega, by norm_num, fun p hp => by
        simp only [Nat.reducePow] at hp; rw [hf2]; simp only; rw [g1 p hp, iff_true]; omega⟩
  have c1 : cnt f2 512 (2 ^ 9) = a2 := cnt_back (by simpa using l2) g1
  rw [c1] at m1
  rw [show (2 : ℕ) ^ 9 = 512 by norm_num, c0] at m0
  have e2 := thr_runP hφ (mergeL 9 fun p => p / 512 % 2 = 0) (pairs3 x1)
  rw [← hf2] at e2
  rw [← e2] at m0 m1
  set x2 := runP (mergeL 9 fun p => p / 512 % 2 = 0) (pairs3 x1)
  -- and with the third
  have h0 : ∀ p < 512, (φ (pairs2 x2 p).1 ↔ p < min 512 (a0 + a1) ∨ 512 ≤ p + a2) := fun p hp => by
    unfold pairs2
    have := m0.2.1 trivial p hp
    have h' := m1.2.2 not_false p hp
    simp only [Nat.zero_add] at this
    rw [thr_top hφ, this, Nat.add_comm p 512]
    exact or_congr Iff.rfl h'
  set f3 : ℕ → Prop := fun p => φ (pairs2 x2 p).1 with hf3
  obtain ⟨t3, c3⟩ := or_bit (f := f3) (g := f3) (min_le_left _ _) l2 h0
  have m3 := (merge 9 0 (fun _ => True) True f3 (by norm_num) fun p _ => Iff.rfl).2 t3
  rw [show (2 : ℕ) ^ 9 = 512 by norm_num, c3] at m3
  have e3 := thr_runP hφ (mergeL 9 fun _ => True) (pairs2 x2)
  rw [← hf3] at e3
  rw [← e3] at m3
  intro p hp
  have := m3.2.1 trivial p hp
  simp only [Nat.zero_add] at this
  rw [hcnt]
  show φ (runP (mergeL 9 fun _ => True) (pairs2 x2) p).1 ↔ _
  rw [this]
  omega

theorem cnt_eq_card {f : ℕ → Prop} {N : ℕ} (s : Finset ℕ) (h : ∀ q, q ∈ s ↔ q < N ∧ f q) : cnt f 0 N = s.card := by
  classical
  have : s = (Finset.range N).filter f := by ext q; rw [h]; simp
  unfold cnt ind
  rw [this, Finset.card_filter]
  simp

/-- When 512 columns hold keys that decrease strictly and exceed those of all other columns, the network returns these
    columns in that order. -/
theorem net3_select {K : ℕ → α} (ι : ℕ → β) {π : ℕ → ℕ} (hπ : ∀ p < 512, π p < 1536)
    (hdec : ∀ p q, p < q → q < 512 → K (π q) < K (π p))
    (hrest : ∀ c < 1536, (∀ p < 512, c ≠ π p) → K c < K (π 511)) :
    ∀ p < 512, net3 (fun c => (K c, ι c)) p = (K (π p), ι (π p)) := by
  intro p hp
  have hle : ∀ q r, q < 512 → r < 512 → (K (π q) ≤ K (π r) ↔ r ≤ q) := fun q r hq hr => by
    constructor
    · intro h; by_contra hn; exact absurd (hdec q r (by omega) hr) (not_lt.2 h)
    · intro h
      rcases h.eq_or_lt with rfl | h
      · exact le_rfl
      · exact (hdec _ _ h hq).le
  have hinj : Set.InjOn π (Set.Iio 512) := fun q hq r hr h =>
    le_antisymm ((hle r q hr hq).1 (by rw [h])) ((hle q r hq hr).1 (by rw [h]))
  have key : ∀ c < 1536, K (π p) ≤ K c → ∃ q ≤ p, c = π q := fun c hc h => by
    by_contra hn
    push Not at hn
    by_cases hx : ∃ q < 512, c = π q
    · obtain ⟨q, hq, rfl⟩ := hx
      exact hn q ((hle p q hp hq).1 h) rfl
    · push Not at hx
      have := hrest c hc hx
      exact absurd (h.trans_lt this) (not_lt.2 ((hle 511 p (by omega) hp).2 (by omega)))
  have c1 : cnt (fun c => K (π p) ≤ K c) 0 1536 = p + 1 := by
    rw [cnt_eq_card ((Finset.range (p + 1)).image π), Finset.card_image_of_injOn, Finset.card_range]
    · exact hinj.mono fun q hq => by simp at hq ⊢; omega
    · intro c
      simp only [Finset.mem_image, Finset.mem_range]
      constructor
      · rintro ⟨q, hq, rfl⟩; exact ⟨hπ q (by omega), (hle p q hp (by omega)).2 (by omega)⟩
      · rintro ⟨hc, h⟩
        obtain ⟨q, hq, rfl⟩ := key c hc h
        exact ⟨q, by omega, rfl⟩
  have c2 : cnt (fun c => K (π p) < K c) 0 1536 = p := by
    rw [cnt_eq_card ((Finset.range p).image π), Finset.card_image_of_injOn, Finset.card_range]
    · exact hinj.mono fun q hq => by simp at hq ⊢; omega
    · intro c
      simp only [Finset.mem_image, Finset.mem_range]
      constructor
      · rintro ⟨q, hq, rfl⟩; exact ⟨hπ q (by omega), hdec q p hq hp⟩
      · rintro ⟨hc, h⟩
        obtain ⟨q, hq, rfl⟩ := key c hc h.le
        refine ⟨q, ?_, rfl⟩
        rcases hq.eq_or_lt with rfl | hq
        · exact absurd h (lt_irrefl _)
        · exact hq
  have t1 := (net3_thr (φ := fun a => K (π p) ≤ a) (fun a b h h' => h'.trans h) (fun c => (K c, ι c)) p hp).2
    (by simp only; rw [c1]; omega)
  have t2 := mt (net3_thr (φ := fun a => K (π p) < a) (fun a b h h' => h'.trans_le h) (fun c => (K c, ι c)) p hp).1
    (by simp only; rw [c2]; omega)
  have e : (net3 (fun c => (K c, ι c)) p).1 = K (π p) := le_antisymm (not_lt.1 t2) t1
  obtain ⟨c, hc, m⟩ := net3_mem (P := fun y => ∃ c < 1536, y = (K c, ι c)) (x := fun c => (K c, ι c))
    (fun c hc => ⟨c, hc, rfl⟩) p hp
  rw [m] at e ⊢
  obtain ⟨q, hq, rfl⟩ := key c hc e.ge
  have h1 := (hle p q hp (by omega)).1 e.ge
  have h2 := (hle q p (by omega) hp).1 e.le
  rw [le_antisymm h1 h2]

end Cert.Net
-- ==== Proof.Read.lean ====
module

public import proofs.«01_k».proof.Proof.Stage
public import proofs.«01_k».proof.Proof.Sort
public import Idealize.ShloMosaic.Lib.ValueLayout
public import Idealize.ShloMosaic.Lib.Pipeline.Value
public import Idealize.ShloMosaic.Lib.Affine
public import Idealize.ShloMosaic.PureOps.Ideal

@[expose] public section

/-! # The stages on arrays, read row by row -/

namespace Cert.Stage

open Idealize.ShloMosaic Idealize.ShloMosaic.ValueIdx Cert.Net

variable {α : Type} {W : ℕ}

theorem sel_one {c : BitVec 1} (h : c = 1#1) (a b : α) : Scalar.select c a b = a := if_pos h

theorem sel_not {c : BitVec 1} (h : ¬c = 1#1) (a b : α) : Scalar.select c a b = b := if_neg h

/-- A row of truth values, as a predicate on columns. -/
def Mask (m : IVec (ln W) 1) (d : ℕ → Prop) : Prop := ∀ p (hp : p < W), m (ix2 (0 : Fin 1) ⟨p, hp⟩) = 1#1 ↔ d p

theorem cols_at (L : Line W) (p : ℕ) (hp : p < W) : cols W L (ix2 (0 : Fin 1) ⟨p, hp⟩) = BitVec.ofNat 32 p := by
  show BitVec.ofNat 32 (0 * W + p) = _
  rw [Nat.zero_mul, Nat.zero_add]

theorem ofNat_and (p k : ℕ) : BitVec.ofNat 32 p &&& BitVec.ofNat 32 k = BitVec.ofNat 32 (p &&& k) := by
  apply BitVec.eq_of_toNat_eq
  simp only [BitVec.toNat_and, BitVec.toNat_ofNat]
  rw [Nat.and_mod_two_pow]

theorem nat_and_pow (p i : ℕ) : p &&& 2 ^ i = 0 ↔ p / 2 ^ i % 2 = 0 := by
  have e : p.testBit i = decide (p / 2 ^ i % 2 = 1) := Nat.testBit_eq_decide_div_mod_eq
  constructor
  · intro h
    have h1 := congrArg (Nat.testBit · i) h
    simp only [Nat.testBit_and, Nat.testBit_two_pow_self, Nat.zero_testBit, Bool.and_true, e, decide_eq_false_iff_not] at h1
    omega
  · intro h
    have h1 : p.testBit i = false := by rw [e, decide_eq_false_iff_not]; omega
    apply Nat.eq_of_testBit_eq
    intro j
    rw [Nat.testBit_and, Nat.testBit_two_pow, Nat.zero_testBit]
    by_cases hj : i = j
    · subst hj; rw [h1]; rfl
    · simp [hj]

theorem and_pow_eq_zero (p i : ℕ) (hi : i < 32) : BitVec.ofNat 32 p &&& BitVec.ofNat 32 (2 ^ i) = 0#32 ↔ p / 2 ^ i % 2 = 0 := by
  rw [ofNat_and, ← BitVec.toNat_inj, BitVec.toNat_ofNat, ← nat_and_pow]
  have hlt : 2 ^ i < 2 ^ 32 := Nat.pow_lt_pow_right (by norm_num) hi
  have hle : p &&& 2 ^ i ≤ 2 ^ i := Nat.and_le_right
  rw [Nat.mod_eq_of_lt (by omega)]
  rfl

theorem low_mask (L : Line W) {i : ℕ} (hi : i < 32) : Mask (low W L (BitVec.ofNat 32 (2 ^ i))) fun p => p / 2 ^ i % 2 = 0 := by
  intro p hp
  show IntOp.cmpi .eq (IntOp.andi (cols W L (ix2 (0 : Fin 1) ⟨p, hp⟩)) (BitVec.ofNat 32 (2 ^ i))) 0#32 = 1#1 ↔ _
  rw [IntOp.cmpi_eq, cols_at]
  exact and_pow_eq_zero p i hi

theorem colMod_at (L : Line W) (hW : W ≤ 2 ^ 16) (p : ℕ) (hp : p < W) :
    colMod W L (ix2 (0 : Fin 1) ⟨p, hp⟩) = BitVec.ofNat 32 (p % 512) := by
  have h0 : (remsi (cols W L) (broadcast (ln W) 512#32)) (ix2 (0 : Fin 1) ⟨p, hp⟩) = BitVec.ofNat 32 (p % 512) := by
    show IntOp.remsi .vector (cols W L (ix2 (0 : Fin 1) ⟨p, hp⟩)) 512#32 = _
    rw [cols_at, ← BitVec.toNat_inj, IntOp.toNat_remsi _ (by simp; omega) 512 (by norm_num) (by norm_num)]
    simp only [BitVec.toNat_ofNat]
    omega
  show Scalar.select (IntOp.andi (IntOp.xori (IntOp.cmpi .slt _ 0#32) (Scalar.cmpi .slt 512#32 0#32)) _) _
    ((remsi (cols W L) (broadcast (ln W) 512#32)) (ix2 (0 : Fin 1) ⟨p, hp⟩)) = _
  rw [h0]
  have h1 : IntOp.cmpi .slt (BitVec.ofNat 32 (p % 512)) 0#32 = 0#1 := by
    have := mt (IntOp.cmpi_slt (x := BitVec.ofNat 32 (p % 512)) (y := 0#32)).1 (by
      rw [BitVec.toInt_eq_toNat_of_lt (by simp; omega)]; exact not_lt.2 (Int.natCast_nonneg _))
    revert this; generalize IntOp.cmpi .slt (BitVec.ofNat 32 (p % 512)) 0#32 = b; revert b; decide
  have h2 : Scalar.cmpi .slt 512#32 0#32 = 0#1 := by decide
  rw [h1, h2]
  have h3 : ∀ b : BitVec 1, IntOp.andi (IntOp.xori 0#1 0#1) b = 0#1 := by decide
  rw [h3]
  rfl

theorem xori_one (a b : BitVec 1) : IntOp.xori a b = 1#1 ↔ (a = 1#1 ↔ ¬b = 1#1) := by revert a b; decide

theorem phaseDir_mask (L : Line W) (hW : W ≤ 2 ^ 16) {m : IVec (ln W) 1} {base : ℕ → Prop} (hm : Mask m base) {i : ℕ} (hi : i < 32) :
    Mask (phaseDir W L (BitVec.ofNat 32 (2 ^ i)) m) (dir base i) := by
  intro p hp
  show IntOp.xori (IntOp.cmpi .ne (IntOp.andi (colMod W L (ix2 (0 : Fin 1) ⟨p, hp⟩)) (BitVec.ofNat 32 (2 ^ i))) 0#32)
    (m (ix2 (0 : Fin 1) ⟨p, hp⟩)) = 1#1 ↔ _
  rw [xori_one, hm p hp, IntOp.cmpi_ne, colMod_at L hW]
  unfold dir IntOp.andi
  rw [Ne, and_pow_eq_zero _ _ hi]
  have := Nat.mod_two_eq_zero_or_one (p % 512 / 2 ^ i)
  have e : (¬p % 512 / 2 ^ i % 2 = 0) ↔ p % 512 / 2 ^ i % 2 = 1 := by omega
  rw [e]

theorem gt_one (a b : EReal) : FloatOps.cmpf (F := Ideal) (φ := .f32) .ogt a b = 1#1 ↔ b < a := by
  show BitVec.ofBool (decide (b < a)) = 1#1 ↔ _
  by_cases h : b < a <;> simp [h]

theorem keep_at (L : Line W) {m desc : IVec (ln W) 1} {l d : ℕ → Prop} (hm : Mask m l) (hd : Mask desc d)
    (key pk : FVec Ideal (sh W) .f32) (r : Fin 256) (p : ℕ) (hp : p < W) :
    keep W L m desc key pk (ix2 r ⟨p, hp⟩) = 1#1 ↔ ((pk (ix2 r ⟨p, hp⟩) < key (ix2 r ⟨p, hp⟩)) ↔ (l p ↔ d p)) := by
  have hb : (broadcastTo (sh W) (broadcastTo (sh W) (xori (xori m desc) (constantI (ln W) 1 1#1)) L.down) L.all) (ix2 r ⟨p, hp⟩)
      = IntOp.xori (IntOp.xori (m (ix2 (0 : Fin 1) ⟨p, hp⟩)) (desc (ix2 (0 : Fin 1) ⟨p, hp⟩))) 1#1 := by
    rw [broadcastTo_apply _ L.all (ix2 r ⟨p, hp⟩) (ix2 r ⟨p, hp⟩) fun a => ?_, broadcastTo_1b_ab_apply]
    · rfl
    · match a with
      | ⟨0, _⟩ => rfl
      | ⟨1, _⟩ =>
        show p = if W = 1 then 0 else p
        split
        · omega
        · rfl
  show IntOp.xori (IntOp.xori (FloatOps.cmpf .ogt (key (ix2 r ⟨p, hp⟩)) (pk (ix2 r ⟨p, hp⟩))) _) 1#1 = 1#1 ↔ _
  rw [hb, xori_one, xori_one, xori_one, xori_one, hm p hp, hd p hp, gt_one]
  have : ¬¬(1#1 = 1#1) := not_not_intro rfl
  by_cases h1 : pk (ix2 r ⟨p, hp⟩) < key (ix2 r ⟨p, hp⟩) <;> by_cases h2 : l p <;> by_cases h3 : d p <;> simp [h1, h2, h3]

/-- A row of a block of pairs, as a function of the column. -/
def Reads (x : FVec Ideal (sh W) .f32 × IVec (sh W) 32) (r : Fin 256) (y : ℕ → EReal × BitVec 32) : Prop :=
  ∀ p (hp : p < W), (x.1 (ix2 r ⟨p, hp⟩), x.2 (ix2 r ⟨p, hp⟩)) = y p

theorem cat_left {a b : ℕ} (u : (sh a).Idx → α) (v : (sh b).Idx → α) (h : Shape.Concatenates [sh a, sh b] (sh W) 1)
    (r : Fin 256) (p : ℕ) (hp : p < W) (hq : p < a) :
    concatenate (sh W) 1 [⟨sh a, u⟩, ⟨sh b, v⟩] h (ix2 r ⟨p, hp⟩) = u (ix2 r ⟨p, hq⟩) :=
  concatenate_pair_apply_left (t := sh W) 1 u v h _ rfl _ fun c => by match c with | ⟨0, _⟩ => rfl | ⟨1, _⟩ => rfl

theorem cat_right {a b : ℕ} (u : (sh a).Idx → α) (v : (sh b).Idx → α) (h : Shape.Concatenates [sh a, sh b] (sh W) 1)
    (r : Fin 256) (p q : ℕ) (hp : p < W) (hq : q < b) (e : p = a + q) :
    concatenate (sh W) 1 [⟨sh a, u⟩, ⟨sh b, v⟩] h (ix2 r ⟨p, hp⟩) = v (ix2 r ⟨q, hq⟩) :=
  concatenate_pair_apply_right (t := sh W) 1 u v h _ rfl rfl _ (fun c hc => by
    match c with | ⟨0, _⟩ => rfl | ⟨1, _⟩ => exact absurd rfl hc) (by show q + a = p; omega)

theorem slice_at {a o : ℕ} (v : (sh W).Idx → α) (h : (sh W).Slices ![0, o] (sh a)) (r : Fin 256) (q : ℕ) (hq : q < a)
    (hW : o + q < W) : extractStridedSlice (sh a) ![0, o] v h (ix2 r ⟨q, hq⟩) = v (ix2 r ⟨o + q, hW⟩) :=
  extractStridedSlice_apply _ v h _ _ fun c => by
    match c with
    | ⟨0, _⟩ => exact (Nat.zero_add _).symm
    | ⟨1, _⟩ => rfl

theorem ix_congr (v : (sh W).Idx → α) (r : Fin 256) {p q : ℕ} (hp : p < W) (hq : q < W) (e : p = q) :
    v (ix2 r ⟨p, hp⟩) = v (ix2 r ⟨q, hq⟩) := by subst e; rfl

theorem partner_at {j : ℕ} (hj : 0 < j) (hW : 2 * j ∣ W) (L : Line W) (R : Roll W j) {m : IVec (ln W) 1}
    (hm : Mask m fun p => p / j % 2 = 0) (v : (sh W).Idx → α) (r : Fin 256) (p : ℕ) (hp : p < W) :
    partner W j L R m v (ix2 r ⟨p, hp⟩) = v (ix2 r ⟨par j p, par_lt hj hW hp⟩) := by
  have hlt := par_lt hj hW hp
  have hb : (broadcastTo (sh W) (shapeCast (ln W) m L.cast) L.down) (ix2 r ⟨p, hp⟩) = m (ix2 (0 : Fin 1) ⟨p, hp⟩) := by
    rw [shapeCast_self, broadcastTo_1b_ab_apply]
  show Scalar.select _ _ _ = _
  rw [hb]
  by_cases h : p / j % 2 = 0
  · rw [sel_one ((hm p hp).2 h)]
    have e : par j p = j + p := by unfold par; rw [if_pos h]; omega
    rw [cat_left _ _ _ _ _ _ (by omega), slice_at _ _ _ _ _ (by omega)]
    exact ix_congr v r _ _ (by omega)
  · rw [sel_not (mt (hm p hp).1 h)]
    have h1 : j ≤ p := by
      by_contra hn
      rw [Nat.div_eq_of_lt (by omega)] at h
      exact h rfl
    have e : par j p = p - j := by unfold par; rw [if_neg h]
    have := R.le
    rw [cat_right _ _ _ _ _ (p - j) _ (by omega) (by omega), slice_at _ _ _ _ _ (by omega)]
    exact ix_congr v r _ _ (by omega)

theorem xor_small (g : ℕ) (hg : g = 1 ∨ g = 2) (n : ℕ) (hn : n < 16) : n ^^^ g = if n / g % 2 = 0 then n + g else n - g := by
  rcases hg with rfl | rfl <;> interval_cases n <;> rfl

theorem swap_at {N g : ℕ} (hg : g = 1 ∨ g = 2) (hN : N < 16) (hWN : W = N * 128) (hW : 2 * (g * 128) ∣ W) (S : Swap W N g)
    (v : (sh W).Idx → α) (r : Fin 256) (p : ℕ) (hp : p < W) :
    swap W N g S v (ix2 r ⟨p, hp⟩) = v (ix2 r ⟨par (g * 128) p, par_lt (by omega) hW hp⟩) := by
  have hlt := par_lt (by omega : 0 < g * 128) hW hp
  have hn : p / 128 < N := by omega
  unfold swap
  rw [concatenate_ofFn_apply (t := sh W) (s₁ := sh 128) 1 _ _ rfl 128 rfl (ix2 r ⟨p, hp⟩) ⟨p / 128, hn⟩ rfl
    (ix2 r ⟨p % 128, Nat.mod_lt _ (by norm_num)⟩) rfl fun c hc => by
      match c with | ⟨0, _⟩ => rfl | ⟨1, _⟩ => exact absurd rfl hc]
  have e : (p / 128 ^^^ g) * 128 + p % 128 = par (g * 128) p := by
    rw [xor_small g hg _ (by omega)]
    unfold par
    rw [Nat.mul_comm g, ← Nat.div_div_eq_div_mul]
    have hx : ¬p / 128 / g % 2 = 0 → g ≤ p / 128 := fun h => by
      by_contra hn
      rw [Nat.div_eq_of_lt (by omega)] at h
      exact h rfl
    split
    · omega
    · rename_i h; have := hx h; omega
  rw [slice_at _ _ _ _ _ (by rw [e]; exact hlt)]
  exact ix_congr v r _ _ e

theorem stage_reads (L : Line W) {m desc : IVec (ln W) 1} {j : ℕ} {d : ℕ → Prop} (hj : 0 < j) (hW : 2 * j ∣ W)
    (hm : Mask m fun p => p / j % 2 = 0) (hd : Mask desc d) {x : FVec Ideal (sh W) .f32 × IVec (sh W) 32} {r : Fin 256}
    {y : ℕ → EReal × BitVec 32} (hx : Reads x r y) {pk : FVec Ideal (sh W) .f32} {pi : IVec (sh W) 32}
    (h1 : ∀ p (hp : p < W), pk (ix2 r ⟨p, hp⟩) = x.1 (ix2 r ⟨par j p, par_lt hj hW hp⟩))
    (h2 : ∀ p (hp : p < W), pi (ix2 r ⟨p, hp⟩) = x.2 (ix2 r ⟨par j p, par_lt hj hW hp⟩)) :
    Reads (select (keep W L m desc x.1 pk) x.1 pk, select (keep W L m desc x.1 pk) x.2 pi) r (cxp j d y) := by
  intro p hp
  show (Scalar.select _ (x.1 _) (pk _), Scalar.select _ (x.2 _) (pi _)) = _
  have k := keep_at L hm hd x.1 pk r p hp
  have e1 := hx p hp
  have e2 := hx _ (par_lt hj hW hp)
  rw [h1 p hp, h2 p hp]
  rw [h1 p hp] at k
  unfold cxp
  rw [← e1, ← e2]
  by_cases h : keep W L m desc x.1 pk (ix2 r ⟨p, hp⟩) = 1#1
  · rw [sel_one h, sel_one h, if_pos (k.1 h)]
  · rw [sel_not h, sel_not h, if_neg (mt k.2 h)]

theorem near_reads {i : ℕ} (hi : i < 32) (hW : 2 * 2 ^ i ∣ W) (L : Line W) (R : Roll W (2 ^ i)) {desc : IVec (ln W) 1} {d : ℕ → Prop}
    (hd : Mask desc d) {x : FVec Ideal (sh W) .f32 × IVec (sh W) 32} {r : Fin 256} {y : ℕ → EReal × BitVec 32} (hx : Reads x r y) :
    Reads (near W (2 ^ i) L R desc x) r (cxp (2 ^ i) d y) :=
  stage_reads L (Nat.two_pow_pos i) hW (low_mask L hi) hd hx
    (partner_at (Nat.two_pow_pos i) hW L R (low_mask L hi) x.1 r) (partner_at (Nat.two_pow_pos i) hW L R (low_mask L hi) x.2 r)

theorem far_reads {N g i : ℕ} (hg : g = 1 ∨ g = 2) (hN : N < 16) (hWN : W = N * 128) (hW : 2 * (g * 128) ∣ W) (L : Line W)
    (S : Swap W N g) (hi : i < 32) (e : g * 128 = 2 ^ i) {desc : IVec (ln W) 1} {d : ℕ → Prop}
    (hd : Mask desc d) {x : FVec Ideal (sh W) .f32 × IVec (sh W) 32} {r : Fin 256} {y : ℕ → EReal × BitVec 32} (hx : Reads x r y) :
    Reads (far W N g L S desc x) r (cxp (g * 128) d y) :=
  stage_reads L (by omega) hW (by rw [e]; exact low_mask L hi) hd hx
    (swap_at hg hN hWN hW S x.1 r) (swap_at hg hN hWN hW S x.2 r)

end Cert.Stage
-- ==== Proof.Row.lean ====
module

public import proofs.«01_k».proof.Proof.Tie
public import proofs.«01_k».proof.Proof.Read

@[expose] public section

/-! # The network on arrays is the network on rows -/

namespace Cert.Stage

open Idealize.ShloMosaic Idealize.ShloMosaic.ValueIdx Cert.Net

variable {α : Type} {W N : ℕ} {D : IVec (ln W) 1} {d : ℕ → Prop} {x : FVec Ideal (sh W) .f32 × IVec (sh W) 32} {r : Fin 256}
  {y : ℕ → EReal × BitVec 32}

theorem down1_reads (H : Width W N) (hN : N < 16) (hW : W = N * 128) (h4 : 4 ∣ N) (hd : Mask D d) (hx : Reads x r y) :
    Reads (down1 W N H D x) r (runP (mergeL 1 d) y) :=
  near_reads (i := 0) (by norm_num) (by omega) H.line H.r1 hd hx

theorem down2_reads (H : Width W N) (hN : N < 16) (hW : W = N * 128) (h4 : 4 ∣ N) (hd : Mask D d) (hx : Reads x r y) :
    Reads (down2 W N H D x) r (runP (mergeL 2 d) y) :=
  down1_reads H hN hW h4 hd (near_reads (i := 1) (by norm_num) (by omega) H.line H.r2 hd hx)

theorem down4_reads (H : Width W N) (hN : N < 16) (hW : W = N * 128) (h4 : 4 ∣ N) (hd : Mask D d) (hx : Reads x r y) :
    Reads (down4 W N H D x) r (runP (mergeL 3 d) y) :=
  down2_reads H hN hW h4 hd (near_reads (i := 2) (by norm_num) (by omega) H.line H.r4 hd hx)

theorem down8_reads (H : Width W N) (hN : N < 16) (hW : W = N * 128) (h4 : 4 ∣ N) (hd : Mask D d) (hx : Reads x r y) :
    Reads (down8 W N H D x) r (runP (mergeL 4 d) y) :=
  down4_reads H hN hW h4 hd (near_reads (i := 3) (by norm_num) (by omega) H.line H.r8 hd hx)

theorem down16_reads (H : Width W N) (hN : N < 16) (hW : W = N * 128) (h4 : 4 ∣ N) (hd : Mask D d) (hx : Reads x r y) :
    Reads (down16 W N H D x) r (runP (mergeL 5 d) y) :=
  down8_reads H hN hW h4 hd (near_reads (i := 4) (by norm_num) (by omega) H.line H.r16 hd hx)

theorem down32_reads (H : Width W N) (hN : N < 16) (hW : W = N * 128) (h4 : 4 ∣ N) (hd : Mask D d) (hx : Reads x r y) :
    Reads (down32 W N H D x) r (runP (mergeL 6 d) y) :=
  down16_reads H hN hW h4 hd (near_reads (i := 5) (by norm_num) (by omega) H.line H.r32 hd hx)

theorem down64_reads (H : Width W N) (hN : N < 16) (hW : W = N * 128) (h4 : 4 ∣ N) (hd : Mask D d) (hx : Reads x r y) :
    Reads (down64 W N H D x) r (runP (mergeL 7 d) y) :=
  down32_reads H hN hW h4 hd (near_reads (i := 6) (by norm_num) (by omega) H.line H.r64 hd hx)

theorem down128_reads (H : Width W N) (hN : N < 16) (hW : W = N * 128) (h4 : 4 ∣ N) (hd : Mask D d) (hx : Reads x r y) :
    Reads (down128 W N H D x) r (runP (mergeL 8 d) y) :=
  down64_reads H hN hW h4 hd (far_reads (i := 7) (.inl rfl) hN hW (by omega) H.line H.s1 (by norm_num) (by norm_num) hd hx)

theorem down256_reads (H : Width W N) (hN : N < 16) (hW : W = N * 128) (h4 : 4 ∣ N) (hd : Mask D d) (hx : Reads x r y) :
    Reads (down256 W N H D x) r (runP (mergeL 9 d) y) :=
  down128_reads H hN hW h4 hd (far_reads (i := 8) (.inr rfl) hN hW (by omega) H.line H.s2 (by norm_num) (by norm_num) hd hx)

theorem top_at (ka kb : EReal) (ia ib : BitVec 32) :
    (Scalar.select (FloatOps.cmpf (F := Ideal) (φ := .f32) .ogt ka kb) ka kb, Scalar.select (FloatOps.cmpf (F := Ideal) (φ := .f32) .ogt ka kb) ia ib)
      = top (ka, ia) (kb, ib) := by
  unfold top
  by_cases h : kb < ka
  · rw [sel_one ((gt_one ka kb).2 h), sel_one ((gt_one ka kb).2 h), if_pos h]
  · rw [sel_not (mt (gt_one ka kb).1 h), sel_not (mt (gt_one ka kb).1 h), if_neg h]

theorem part_at {o : ℕ} (h : (sh W).Slices ![0, o] (sh 512)) (v : (sh W).Idx → α) (q : ℕ) (hq : q < 512) (hW : o + q < W) :
    part W o h v (ix2 r ⟨q, hq⟩) = v (ix2 r ⟨o + q, hW⟩) := slice_at v h r q hq hW

theorem higher_at (ka kb : FVec Ideal (sh 512) .f32) (ia ib : IVec (sh 512) 32) (q : (sh 512).Idx) :
    ((higher ka kb ia ib).1 q, (higher ka kb ia ib).2 q) = top (ka q, ia q) (kb q, ib q) := top_at _ _ _ _

theorem join2_reads {x : FVec Ideal (sh 1024) .f32 × IVec (sh 1024) 32} (hx : Reads x r y) : Reads (join2 x) r (pairs2 y) := by
  intro p hp
  refine (higher_at _ _ _ _ _).trans ?_
  rw [part_at _ _ _ _ (by omega), part_at _ _ _ _ (by omega), part_at _ _ _ _ (by omega), part_at _ _ _ _ (by omega), hx, hx,
    Nat.zero_add, Nat.add_comm 512]
  rfl

theorem join3_reads {x : FVec Ideal (sh 1536) .f32 × IVec (sh 1536) 32} (hx : Reads x r y) : Reads (join3 x) r (pairs3 y) := by
  intro p hp
  unfold pairs3
  by_cases h : p < 512
  · rw [if_pos h]
    show (beside _ _ _, beside _ _ _) = _
    unfold beside
    rw [cat_left _ _ _ _ _ _ h, cat_left _ _ _ _ _ _ h]
    refine (higher_at _ _ _ _ _).trans ?_
    rw [part_at _ _ _ _ (by omega), part_at _ _ _ _ (by omega), part_at _ _ _ _ (by omega), part_at _ _ _ _ (by omega), hx, hx,
      Nat.zero_add, Nat.add_comm 512]
  · rw [if_neg h]
    show (beside _ _ _, beside _ _ _) = _
    unfold beside
    rw [cat_right _ _ _ _ _ (p - 512) _ (by omega) (by omega), cat_right _ _ _ _ _ (p - 512) _ (by omega) (by omega),
      part_at _ _ _ _ (by omega), part_at _ _ _ _ (by omega), hx]
    congr 1
    omega

theorem low_512 : Mask (cmpi .slt (cols 1536 width1536.line) (broadcast (ln 1536) 512#32)) (· < 512) := by
  intro p hp
  show IntOp.cmpi .slt (cols 1536 width1536.line (ix2 (0 : Fin 1) ⟨p, hp⟩)) 512#32 = 1#1 ↔ _
  rw [IntOp.cmpi_slt, cols_at, BitVec.toInt_eq_toNat_of_lt (by simp; omega), BitVec.toNat_ofNat, Nat.mod_eq_of_lt (by omega)]
  show (p : ℤ) < 512 ↔ _
  omega

theorem dirs_mask {i : ℕ} (hi : i < 32) : Mask (dirs (BitVec.ofNat 32 (2 ^ i))) (dir (· < 512) i) :=
  phaseDir_mask width1536.line (by norm_num) low_512 hi

theorem dirOne_mask : Mask dirOne fun _ => True := fun _ _ => ⟨fun _ => trivial, fun _ => rfl⟩

theorem network_reads {x : FVec Ideal (sh 1536) .f32 × IVec (sh 1536) 32} (hx : Reads x r y) : Reads (network x) r (net3 y) := by
  have h1 := down1_reads width1536 (by norm_num) rfl (by norm_num) (dirs_mask (i := 1) (by norm_num)) hx
  have h2 := down2_reads width1536 (by norm_num) rfl (by norm_num) (dirs_mask (i := 2) (by norm_num)) h1
  have h3 := down4_reads width1536 (by norm_num) rfl (by norm_num) (dirs_mask (i := 3) (by norm_num)) h2
  have h4 := down8_reads width1536 (by norm_num) rfl (by norm_num) (dirs_mask (i := 4) (by norm_num)) h3
  have h5 := down16_reads width1536 (by norm_num) rfl (by norm_num) (dirs_mask (i := 5) (by norm_num)) h4
  have h6 := down32_reads width1536 (by norm_num) rfl (by norm_num) (dirs_mask (i := 6) (by norm_num)) h5
  have h7 := down64_reads width1536 (by norm_num) rfl (by norm_num) (dirs_mask (i := 7) (by norm_num)) h6
  have h8 := down128_reads width1536 (by norm_num) rfl (by norm_num) (dirs_mask (i := 8) (by norm_num)) h7
  have h9 := down256_reads width1536 (by norm_num) rfl (by norm_num) (dirs_mask (i := 9) (by norm_num)) h8
  have h10 := down256_reads width1024 (by norm_num) rfl (by norm_num) (low_mask width1024.line (i := 9) (by norm_num)) (join3_reads h9)
  have h11 := down256_reads width512 (by norm_num) rfl (by norm_num) dirOne_mask (join2_reads h10)
  simp only [← runP_append] at h9 h10 h11
  exact h11

end Cert.Stage
-- ==== Proof.Score.lean ====
module

public import proofs.«01_k».proof.Proof.Row
public import Idealize.ShloMosaic.Lib.MatmulPlain
public import Idealize.ShloMosaic.Lib.IdealHost
public import Idealize.ShloMosaic.Lib.Pipeline.ValueKit
public import Mathlib.Algebra.BigOperators.Fin

@[expose] public section

/-! # The scores of a block of queries -/

noncomputable section

namespace Cert.Stage

open Idealize.ShloMosaic hiding ix2 ix3 ix4
open Idealize.ShloMosaic.ValueIdx Cert.Kernel2Ideal Cert.Kernel2Ideal.Gen Cert.Kernel2Ideal.Gen.kernelRun0_A
open scoped BigOperators

/-- One head's share of a score: the dot product cut off below at zero and weighted. -/
def head (q k : Fin 128 → EReal) (w : EReal) : EReal := max (∑ d, q d * k d) 0 * w

/-- A score: the sum over the heads. -/
def score (q : Fin 16 → Fin 128 → EReal) (k : Fin 128 → EReal) (w : Fin 16 → EReal) : EReal := ∑ h, head (q h) k (w h)

theorem sum_sixteen (f : Fin 16 → EReal) : ∑ h, f h = 0 + f 0 + f 1 + f 2 + f 3 + f 4 + f 5 + f 6 + f 7 + f 8 + f 9 + f 10 + f 11 + f 12
    + f 13 + f 14 + f 15 := by
  simp only [Fin.sum_univ_castSucc, Finset.univ_eq_empty, Finset.sum_empty]
  rfl

theorem addf_ix {s : Shape} (a b : FVec Ideal s .f32) (j : s.Idx) : addf a b j = (a j : EReal) + b j := rfl

theorem head_at (q : FVec Ideal S256x128 .bf16) (k : FVec Ideal S1536x128 .bf16) (w : FVec Ideal S256x16 .f32) (n : ℕ) (hn : n < 16)
    (hs : S256x16.Slices ![0, n] S256x1) (hb : S256x1.Broadcasts S256x1536) (r : Fin 256) (c : Fin 1536) :
    mulf (maximumf (matmul dot_S256x128_S1536x128_S256x1536_1_1_0_0_n_n none q k (constant S256x1536 .f32 0x00000000#32))
        (broadcast S256x1536 (Scalar.ofBits .f32 0x00000000#32))) (broadcastTo S256x1536 (extractStridedSlice S256x1 ![0, n] w hs) hb)
      (ix2 r c) = head (fun d => q (ix2 r d)) (fun d => k (ix2 c d)) (w (ix2 r ⟨n, hn⟩)) := by
  have e1 := Ideal.matmul_transposedRhs_apply none q k (constant S256x1536 .f32 0x00000000#32) r c
  have e2 : broadcastTo S256x1536 (extractStridedSlice S256x1 ![0, n] w hs) hb (ix2 r c) = w (ix2 r ⟨n, hn⟩) := by
    rw [broadcastTo_apply _ hb (ix2 r c) (ix2 r (0 : Fin 1)) fun a => by match a with | ⟨0, _⟩ => rfl | ⟨1, _⟩ => rfl]
    exact extractStridedSlice_apply _ w hs _ _ fun a => by
      match a with
      | ⟨0, _⟩ => exact (Nat.zero_add _).symm
      | ⟨1, _⟩ => rfl
  have e0 : constant (F := Ideal) S256x1536 .f32 0x00000000#32 (ix2 r c) = (0 : EReal) := Ideal.ofBits_zero_f32
  rw [e0, zero_add] at e1
  show max (FloatOps.matmul (DotDims.transposedRhs 256 128 1536) none q k (constant S256x1536 .f32 0x00000000#32) (ix2 r c) : EReal)
    (Ideal.ofBits .f32 0x00000000#32) * broadcastTo S256x1536 (extractStridedSlice S256x1 ![0, n] w hs) hb (ix2 r c) = _
  rw [e1, e2, Ideal.ofBits_zero_f32]
  rfl

section Pay
variable (k : Vec Ideal S1536x128 .bf16) (w : Vec Ideal S256x16 .f32) (a : FVec Ideal S256x1536 .f32)
  (q0 q1 q2 q3 q4 : Vec Ideal S256x128 .bf16) (r : Fin 256) (c : Fin 1536)

/-- A head's share from a block of 128 features. -/
def headOf (q : Vec Ideal S256x128 .bf16) (n : Fin 16) : EReal :=
  head (fun d => q (ix2 r d)) (fun d => k (ix2 c d)) (w (ix2 r n))

theorem pay3_at : k0_pay3 (F := Ideal) k w q0 q1 q2 q3 (ix2 r c)
    = 0 + headOf k w r c q0 0 + headOf k w r c q1 1 + headOf k w r c q2 2 + headOf k w r c q3 3 := by
  unfold k0_pay3
  rw [addf_ix, addf_ix, addf_ix, addf_ix, head_at _ _ _ 0 (by norm_num), head_at _ _ _ 1 (by norm_num), head_at _ _ _ 2 (by norm_num),
    head_at _ _ _ 3 (by norm_num)]
  have e0 : broadcast S256x1536 (Scalar.ofBits (F := Ideal) .f32 0x00000000#32) (ix2 r c) = (0 : EReal) := Ideal.ofBits_zero_f32
  rw [e0]
  rfl

theorem pay4_at : k0_pay4 (F := Ideal) k w a q0 q1 q2 q3 q4 (ix2 r c)
    = (a (ix2 r c) : EReal) + headOf k w r c q0 4 + headOf k w r c q1 5 + headOf k w r c q2 6 + headOf k w r c q3 7 + headOf k w r c q4 8 := by
  unfold k0_pay4
  rw [addf_ix, addf_ix, addf_ix, addf_ix, addf_ix, head_at _ _ _ 4 (by norm_num), head_at _ _ _ 5 (by norm_num),
    head_at _ _ _ 6 (by norm_num), head_at _ _ _ 7 (by norm_num), head_at _ _ _ 8 (by norm_num)]
  rfl

theorem pay5_at : k0_pay5 (F := Ideal) k w a q0 q1 q2 q3 q4 (ix2 r c)
    = (a (ix2 r c) : EReal) + headOf k w r c q0 9 + headOf k w r c q1 10 + headOf k w r c q2 11 + headOf k w r c q3 12
      + headOf k w r c q4 13 := by
  unfold k0_pay5
  rw [addf_ix, addf_ix, addf_ix, addf_ix, addf_ix, head_at _ _ _ 9 (by norm_num), head_at _ _ _ 10 (by norm_num),
    head_at _ _ _ 11 (by norm_num), head_at _ _ _ 12 (by norm_num), head_at _ _ _ 13 (by norm_num)]
  rfl

/-- The key put on a masked column. -/
def masked (c : ℕ) : EReal := Ideal.ofBits .f32 0x00000000#32
  - (Ideal.ofBits .f32 0x4E6E6B28#32 + Ideal.ofBits .f32 0x42800000#32 * (((BitVec.ofNat 32 c).toInt : ℝ) : EReal))

theorem pay6_at (v : BitVec 32) : k0_pay6 (F := Ideal) v k w a q0 q1 (ix2 r c)
    = Scalar.select (IntOp.cmpi .sgt (BitVec.ofNat 32 c) (v * 256#32 + BitVec.ofNat 32 r)) (masked c)
      ((a (ix2 r c) : EReal) + headOf k w r c q0 14 + headOf k w r c q1 15) := by
  have b : ∀ (x : IVec S1x1536 32) (h : S1x1536.Broadcasts S256x1536), broadcastTo S256x1536 x h (ix2 r c) = x (ix2 0 c) := fun x h =>
    broadcastTo_1b_ab_apply x h r c
  have b' : ∀ (x : FVec Ideal S1x1536 .f32) (h : S1x1536.Broadcasts S256x1536), broadcastTo S256x1536 x h (ix2 r c) = x (ix2 0 c) :=
    fun x h => broadcastTo_1b_ab_apply x h r c
  unfold k0_pay6
  dsimp only
  rw [select_apply, addf_ix, addf_ix, head_at _ _ _ 14 (by norm_num), head_at _ _ _ 15 (by norm_num), b', shapeCast_self]
  have e1 : ∀ (x y : IVec S256x1536 32), cmpi .sgt x y (ix2 r c) = IntOp.cmpi .sgt (x (ix2 r c)) (y (ix2 r c)) := fun _ _ => rfl
  rw [e1, b]
  have e2 : iota .tc S1x1536 32 [1] iota_S1x1536_d1_w32 (ix2 (0 : Fin 1) c) = BitVec.ofNat 32 c := by
    show BitVec.ofNat 32 (0 * 1536 + c) = _
    rw [Nat.zero_mul, Nat.zero_add]
  have e3 : addi (broadcast S256x1536 (Scalar.muli v 256#32)) (iota .tc S256x1536 32 [0] iota_S256x1536_d0_w32) (ix2 r c)
      = v * 256#32 + BitVec.ofNat 32 r := by
    show v * 256#32 + BitVec.ofNat 32 (0 * 256 + r) = _
    rw [Nat.zero_mul, Nat.zero_add]
  have e4 : subf (broadcast S1x1536 (Scalar.ofBits (F := Ideal) .f32 0x00000000#32)) (addf (broadcast S1x1536 (Scalar.ofBits .f32 0x4E6E6B28#32))
      (mulf (broadcast S1x1536 (Scalar.ofBits .f32 0x42800000#32)) (sitofp .f32 (iota .tc S1x1536 32 [1] iota_S1x1536_d1_w32)))) (ix2 (0 : Fin 1) c)
      = masked c := by
    show Ideal.ofBits .f32 0x00000000#32 - (Ideal.ofBits .f32 0x4E6E6B28#32 + Ideal.ofBits .f32 0x42800000#32
      * (((iota .tc S1x1536 32 [1] iota_S1x1536_d1_w32 (ix2 (0 : Fin 1) c)).toInt : ℝ) : EReal)) = _
    rw [e2]
    rfl
  rw [e2, e3, e4]
  rfl

theorem pay7_at : k0_pay7 (ix2 r c) = BitVec.ofNat 32 c := by
  unfold k0_pay7
  dsimp only
  rw [broadcastTo_1b_ab_apply, shapeCast_self]
  show BitVec.ofNat 32 (0 * 1536 + c) = _
  rw [Nat.zero_mul, Nat.zero_add]

end Pay

/-- The masked key is below -1e8. -/
theorem masked_lt (c : ℕ) (hc : c < 1536) : masked c < Ideal.ofBits .f32 0xCCBEBC20#32 := by
  have e1 : Ideal.ofBits .f32 0x4E6E6B28#32 = ((1000000000 : ℝ) : EReal) := by
    simp [Ideal.ofBits, Ideal.ieee, -EReal.coe_mul]; norm_num
  have e2 : Ideal.ofBits .f32 0x42800000#32 = ((64 : ℝ) : EReal) := by
    simp [Ideal.ofBits, Ideal.ieee, -EReal.coe_mul]; norm_num
  have e3 : Ideal.ofBits .f32 0xCCBEBC20#32 = ((-100000000 : ℝ) : EReal) := by
    simp [Ideal.ofBits, Ideal.ieee, -EReal.coe_mul, -EReal.coe_neg]; norm_num
  unfold masked
  rw [e1, e2, e3, Ideal.ofBits_zero_f32, ← EReal.coe_mul, ← EReal.coe_add, ← EReal.coe_zero, ← EReal.coe_sub, EReal.coe_lt_coe_iff,
    BitVec.toInt_eq_toNat_of_lt (by simp; omega)]
  have : (0 : ℝ) ≤ (((BitVec.ofNat 32 c).toNat : ℤ) : ℝ) := by exact_mod_cast Nat.zero_le _
  linarith

section Run
variable (c : Dev nD) (i : grid0.Coords)
  (a1 : Memref sig .tc .vmem S256x2048 .bf16) (h1 : a1.IsWhole) (a2 : Memref sig .tc .vmem S1536x128 .bf16) (h2 : a2.IsWhole)
  (a3 : Memref sig .tc .vmem S256x16 .f32) (h3 : a3.IsWhole)
  (x0 : Vec Ideal S256x2048 .bf16) (x1 : Vec Ideal S1536x128 .bf16) (x2 : Vec Ideal S256x16 .f32)

theorem offset_zero : (![0, 0] : Fin 2 → Nat) = fun _ => 0 := funext fun a => by fin_cases a <;> rfl

theorem keys_eq : sl.r (F := Ideal) c a2 h2 x1 = x1 := by
  unfold sl.r
  rw [View.readAt_eq_ld, h2.read_unread, View.ld_unit_zero (S := S1536x128) offset_zero]

theorem weights_eq : sl.r_1 (F := Ideal) c a3 h3 x2 = x2 := by
  unfold sl.r_1
  rw [View.readAt_eq_ld, h3.read_unread, View.ld_unit_zero (S := S256x16) offset_zero]

theorem query_at (n : ℕ) (hn : n + 128 ≤ 2048) (inb : ∀ a, (![0, n] : Fin S256x2048.rank → ℕ) a + S256x128.size a ≤ S256x2048.size a)
    (r : Fin 256) (d : Fin 128) :
    View.readAt (Elt Ideal) a1.view (Rect.unit (s := S256x2048) ![0, n] S256x128.size inb).toLoadRect (h1.unread x0) (ix2 r d)
      = x0 (ix2 r ⟨n + d, by omega⟩) := by
  rw [View.readAt_eq_ld, h1.read_unread]
  exact View.ld_unit_apply_of x0 ![0, n] S256x128.size inb (ix2 r d) _ fun a => by
    match a with
    | ⟨0, _⟩ => exact (Nat.zero_add _).symm
    | ⟨1, _⟩ => rfl

theorem headOf_query (w : Vec Ideal S256x16 .f32) (k : Vec Ideal S1536x128 .bf16) (r : Fin 256) (p : Fin 1536) (n : ℕ) (hn : n + 128 ≤ 2048)
    (inb : ∀ a, (![0, n] : Fin S256x2048.rank → ℕ) a + S256x128.size a ≤ S256x2048.size a) (h : Fin 16) (hh : 128 * h.val = n) :
    headOf k w r p (View.readAt (Elt Ideal) a1.view (Rect.unit (s := S256x2048) ![0, n] S256x128.size inb).toLoadRect (h1.unread x0)) h
      = head (fun d => x0 (ix2 r ⟨128 * h + d, by omega⟩)) (fun d => k (ix2 p d)) (w (ix2 r h)) := by
  subst hh
  unfold headOf
  exact congrArg (fun f => head f _ _) (funext fun d => query_at a1 h1 x0 _ hn inb r d)

theorem sel_row (i : ℕ) (hi : i < 2) (r : Fin 256) (p : Fin 1536) (x y : EReal) :
    Scalar.select (IntOp.cmpi .sgt (BitVec.ofNat 32 p) (Scalar.addi 4#32 (BitVec.ofNat 32 i) * 256#32 + BitVec.ofNat 32 r)) x y
      = if 1024 + 256 * i + r < p then x else y := by
  have e : Scalar.addi 4#32 (BitVec.ofNat 32 i) * 256#32 + BitVec.ofNat 32 r = BitVec.ofNat 32 (1024 + 256 * i + r) := by
    apply BitVec.eq_of_toNat_eq
    simp [Scalar.addi, IntOp.addi]
    omega
  have hp := p.isLt
  have hr := r.isLt
  have t : (BitVec.ofNat 32 (1024 + 256 * i + r)).slt (BitVec.ofNat 32 p) = decide (1024 + 256 * i + r.val < p.val) := by
    rw [BitVec.slt_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    congr 1
    exact propext (by omega)
  rw [e]
  by_cases h : 1024 + 256 * i + r.val < p.val
  · rw [if_pos h]
    exact sel_one (congrArg BitVec.ofBool (t.trans (decide_eq_true h))) _ _
  · rw [if_neg h]
    exact sel_not (fun e => by have := (congrArg BitVec.ofBool (t.trans (decide_eq_false h))).symm.trans e; exact absurd this (by decide)) _ _

/-- The key of column p in row r of block i. -/
def keyOf (n : ℕ) (r : Fin 256) (p : ℕ) : EReal :=
  if h : p < 1536 then
    if 1024 + 256 * n + r < p then masked p
    else score (fun h d => x0 (ix2 r ⟨128 * h + d, by omega⟩)) (fun d => x1 (ix2 ⟨p, h⟩ d)) (fun h => x2 (ix2 r h))
  else 0

theorem key_at (r : Fin 256) (p : Fin 1536) : sl.r_5 (F := Ideal) c i a1 h1 a2 h2 a3 h3 x0 x1 x2 (ix2 r p)
    = keyOf x0 x1 x2 (i 0).val r p := by
  have hi : (i 0).val < 2 := (i 0).isLt
  unfold sl.r_5 sl.v0
  rw [keys_eq, weights_eq, pay6_at, sel_row _ hi]
  unfold sl.r_4
  rw [keys_eq, weights_eq, pay5_at]
  unfold sl.r_3
  rw [keys_eq, weights_eq, pay4_at]
  unfold sl.r_2
  have ek := keys_eq c a2 h2 x1
  have ew := weights_eq c a3 h3 x2
  unfold sl.r at ek
  unfold sl.r_1 at ew
  rw [ek, ew, pay3_at]
  unfold keyOf
  rw [dif_pos p.isLt]
  refine if_congr Iff.rfl rfl ?_
  rw [score, sum_sixteen]
  rw [headOf_query _ _ _ _ _ _ _ 0 (by norm_num) _ 0 rfl, headOf_query _ _ _ _ _ _ _ 128 (by norm_num) _ 1 rfl,
    headOf_query _ _ _ _ _ _ _ 256 (by norm_num) _ 2 rfl, headOf_query _ _ _ _ _ _ _ 384 (by norm_num) _ 3 rfl,
    headOf_query _ _ _ _ _ _ _ 512 (by norm_num) _ 4 rfl, headOf_query _ _ _ _ _ _ _ 640 (by norm_num) _ 5 rfl,
    headOf_query _ _ _ _ _ _ _ 768 (by norm_num) _ 6 rfl, headOf_query _ _ _ _ _ _ _ 896 (by norm_num) _ 7 rfl,
    headOf_query _ _ _ _ _ _ _ 1024 (by norm_num) _ 8 rfl, headOf_query _ _ _ _ _ _ _ 1152 (by norm_num) _ 9 rfl,
    headOf_query _ _ _ _ _ _ _ 1280 (by norm_num) _ 10 rfl, headOf_query _ _ _ _ _ _ _ 1408 (by norm_num) _ 11 rfl,
    headOf_query _ _ _ _ _ _ _ 1536 (by norm_num) _ 12 rfl, headOf_query _ _ _ _ _ _ _ 1664 (by norm_num) _ 13 rfl,
    headOf_query _ _ _ _ _ _ _ 1792 (by norm_num) _ 14 rfl, headOf_query _ _ _ _ _ _ _ 1920 (by norm_num) _ 15 rfl]

theorem block_reads (r : Fin 256) : Reads (W := 1536) (sl.r_5 (F := Ideal) c i a1 h1 a2 h2 a3 h3 x0 x1 x2, k0_pay7) r
    (fun p => (keyOf x0 x1 x2 (i 0).val r p, BitVec.ofNat 32 p)) := fun p hp =>
  Prod.ext (key_at c i a1 h1 a2 h2 a3 h3 x0 x1 x2 r ⟨p, hp⟩) (pay7_at r ⟨p, hp⟩)

end Run

end Cert.Stage
-- ==== Proof.Order.lean ====
module

public import proofs.«01_k».proof.Proof.Sort
public import Idealize.ShloMosaic.PureOps.Ideal
public import Idealize.ShloMosaic.Lib.SortFacts

@[expose] public section

/-! # The network against the stable sort of one row of scores -/

namespace Cert.Order

open Idealize.ShloMosaic Cert.Net

/-- Row `row`: the network on the keys `K` of the first 1536 columns finds the 512 greatest of all the scores `S`. Keys and scores
agree up to column `row`; behind it both are below `N`, and the 512 greatest scores are not. -/
theorem net3_row {S K : ℕ → EReal} {N : EReal} {row : ℕ} (hrow : row < 1536) {π : Fin 2048 → Fin 2048} (hsurj : Function.Surjective π)
    (hmono : ∀ i j, i < j → S (π j) ≤ S (π i)) (h1 : ∀ c < 2048, c ≤ row ∨ S c < N)
    (h2 : ∀ p (hp : p < 512), S (π ⟨p + 1, by omega⟩) < S (π ⟨p, by omega⟩)) (h3 : ∀ p (hp : p < 512), N ≤ S (π ⟨p, by omega⟩))
    (hK : ∀ c ≤ row, K c = S c) (hK' : ∀ c, row < c → c < 1536 → K c < N) (p : ℕ) (hp : p < 512) :
    net3 (fun c => (K c, BitVec.ofNat 32 c)) p = (S (π ⟨p, by omega⟩), BitVec.ofNat 32 (π ⟨p, by omega⟩).val) := by
  let σ : ℕ → ℕ := fun p => if h : p < 2048 then (π ⟨p, h⟩).val else 0
  have hσ : ∀ p (h : p < 2048), σ p = (π ⟨p, h⟩).val := fun p h => dif_pos h
  have hle : ∀ p < 512, σ p ≤ row := fun p hp => by
    rw [hσ p (by omega)]
    exact (h1 _ (π _).isLt).resolve_right (not_lt.2 (h3 p hp))
  have hKσ : ∀ p (hp : p < 512), K (σ p) = S (π ⟨p, by omega⟩) := fun p hp => by
    rw [hK _ (hle p hp), hσ p (by omega)]
  have hdec : ∀ p (hp : p < 512) q (hq : q < 2048), p < q → S (π ⟨q, hq⟩) < S (π ⟨p, by omega⟩) := fun p hp q hq hpq => by
    rcases Nat.eq_or_lt_of_le (Nat.succ_le_of_lt hpq) with e | h
    · subst e; exact h2 p hp
    · exact (hmono ⟨p + 1, by omega⟩ ⟨q, hq⟩ h).trans_lt (h2 p hp)
  have := net3_select (K := K) (fun c => BitVec.ofNat 32 c) (π := σ) (fun p hp => (hle p hp).trans_lt hrow)
    (fun p q hpq hq => by rw [hKσ q hq, hKσ p (by omega)]; exact hdec p (by omega) q (by omega) hpq)
    (fun c hc hne => by
      rw [hKσ 511 (by omega)]
      by_cases h : c ≤ row
      · obtain ⟨k, hk⟩ := hsurj ⟨c, by omega⟩
        have hk' : 512 ≤ k.val := by
          by_contra hlt
          refine hne k.val (by omega) ?_
          rw [hσ _ k.isLt]
          exact (congrArg Fin.val hk).symm
        have e : S c = S (π k) := by rw [hk]
        rw [hK c h, e]
        exact hdec 511 (by omega) k.val k.isLt (by omega)
      · exact (hK' c (by omega) hc).trans_le (h3 511 (by omega))) p hp
  rw [this, hKσ p hp, hσ p (by omega)]

/-- The stable sort by greater scores first never puts a greater score later. -/
theorem sorted_mono {n : ℕ} (S : Fin n → EReal) (i j : Fin n) (hij : i < j) :
    S (sortedFrom (fun k k' => FloatOps.cmpfTotal (F := Ideal) (φ := .f32) .gt (S k) (S k') == 1#1) j)
      ≤ S (sortedFrom (fun k k' => FloatOps.cmpfTotal (F := Ideal) (φ := .f32) .gt (S k) (S k') == 1#1) i) := by
  have e : ∀ a b : Fin n, (FloatOps.cmpfTotal (F := Ideal) (φ := .f32) .gt (S a) (S b) == 1#1) = decide (S b < S a) := fun a b => by
    show (BitVec.ofBool (decide (S b < S a)) == 1#1) = _
    by_cases h : S b < S a <;> simp [h]
  have := sortedFrom_noInversion (fun a b => FloatOps.cmpfTotal (F := Ideal) (φ := .f32) .gt (S a) (S b) == 1#1)
    (fun a b => FloatOps.cmpfTotal (F := Ideal) (φ := .f32) .gt (S a) (S b) == 1#1)
    (fun a b h => by
      rw [e] at h ⊢
      exact decide_eq_false (not_lt.2 (of_decide_eq_true h).le))
    (fun _ _ h => h)
    (fun a b c h h' => by
      rw [e] at h h' ⊢
      exact decide_eq_false (not_lt.2 ((not_lt.1 (of_decide_eq_false h)).trans (not_lt.1 (of_decide_eq_false h'))))) i j hij
  rw [e] at this
  exact not_lt.1 (of_decide_eq_false this)

end Cert.Order
-- ==== Proof.Ref.lean ====
module

public import proofs.«01_k».proof.Proof.Score
public import proofs.«01_k».proof.Proof.Order
public import proofs.«01_k».proof.Proof.Gen.Reference2Ideal
public import proofs.«01_k».proof.Pre_scores_separate_2
public import Idealize.ShloMosaic.Lib.Pointwise

@[expose] public section

/-! # The reference's scores, entry by entry -/

noncomputable section

namespace Cert.Ref

open Idealize.ShloMosaic Cert.Reference2Ideal Cert.Reference2Ideal.Gen
open scoped BigOperators

variable (q : FVec Ideal S2048x2048 .bf16) (k : FVec Ideal S2048x128 .bf16) (w : FVec Ideal S2048x16 .f32)

def products : FVec Ideal S1x2048x512x16 .f32 :=
  Host.dotGeneral dot_S1x2048x128_S1x512x16x128_S1x2048x512x16_2_3_1_12_0_0 none
    (shapeCast _ (extf .f32 k bitsLt_bf16_f32) shapeCasts_S2048x128_S1x2048x128)
    (extractStridedSlice S1x512x16x128 ![0, 1024, 0, 0]
      (shapeCast _ (extf .f32 q bitsLt_bf16_f32) shapeCasts_S2048x2048_S1x2048x16x128) slices_S1x2048x16x128_S1x512x16x128_0_1024_0_0)

theorem products_at (c : Fin 2048) (r : Fin 512) (h : Fin 16) : products q k (ix4 0 c r h)
    = ∑ d : Fin 128, k (ix2 c d) * q (ix2 ⟨1024 + r, by omega⟩ ⟨128 * h + d, by omega⟩) := by
  pointwise [products]
  refine Finset.sum_congr rfl fun d _ => congrArg (k (ix2 c d) * ·) (congrArg q (congrArg (ix2 _) (Fin.ext ?_)))
  show h.val * 128 + d = 128 * h + d
  rw [Nat.mul_comm]

/-- The causal mask as a term of a score. -/
def mask : FVec Ideal S512x2048 .f32 :=
  select (cmpi .sge (addi (iotaInDim S512x2048 32 0) (broadcastInDim S512x2048 ![] bcast_S_S512x2048 (constantI S_ 32 1024#32))) (iotaInDim S512x2048 32 1))
    (broadcastInDim S512x2048 ![] bcast_S_S512x2048 (constant S_ .f32 0x00000000#32)) (broadcastInDim S512x2048 ![] bcast_S_S512x2048 (constant S_ .f32 0xCE6E6B28#32))

def weights : FVec Ideal S1x16x512x2048 .f32 :=
  broadcastInDim S1x16x512x2048 ![0, 1, 2, 3] bcast_S1x16x512x1_S1x16x512x2048_0_1_2_3
    (transpose S1x16x512x1 [0, 2, 1, 3] (broadcastInDim S1x512x16x1 ![0, 1, 2] bcast_S1x512x16_S1x512x16x1_0_1_2
      (extractStridedSlice S1x512x16 ![0, 1024, 0] (shapeCast _ w shapeCasts_S2048x16_S1x2048x16) slices_S1x2048x16_S1x512x16_0_1024_0))
      transposes_S1x512x16x1_S1x16x512x1_0_2_1_3)

/-- The reference's scores of the queries 1024 to 1535. -/
def scores : FVec Ideal S1x512x2048 .f32 :=
  addf (Host.reduceAdd (mulf (maximumf (transpose S1x16x512x2048 [0, 3, 2, 1] (products q k) transposes_S1x2048x512x16_S1x16x512x2048_0_3_2_1)
      (broadcastInDim S1x16x512x2048 ![] bcast_S_S1x16x512x2048 (constant S_ .f32 0x00000000#32))) (weights w))
      (constant S_ .f32 0x00000000#32) reducesTo_S1x16x512x2048_S1x512x2048_d1 h_S_)
    (broadcastInDim S1x512x2048 ![1, 2] bcast_S512x2048_S1x512x2048_1_2 mask)

theorem weights_at (h : Fin 16) (r : Fin 512) (c : Fin 2048) : weights w (ix4 0 h r c) = w (ix2 ⟨1024 + r, by omega⟩ h) := by
  pointwise [weights]

/-- The score of a row and a column before the mask. -/
def plain (r : Fin 512) (c : Fin 2048) : EReal :=
  Cert.Stage.score (fun h d => q (ix2 ⟨1024 + r, by omega⟩ ⟨128 * h + d, by omega⟩)) (fun d => k (ix2 c d)) (fun h => w (ix2 ⟨1024 + r, by omega⟩ h))

theorem scores_plain (r : Fin 512) (c : Fin 2048) : scores q k w (ix3 0 r c) = plain q k w r c + mask (ix2 r c) := by
  pointwise [scores]
  rw [plain, Cert.Stage.score]
  congr 1
  refine Finset.sum_congr rfl fun h _ => ?_
  rw [products_at, weights_at]
  exact congrArg (fun x => max x 0 * w (ix2 ⟨1024 + r, by omega⟩ h)) (Finset.sum_congr rfl fun d _ => mul_comm _ _)

/-- Whether the column is at most the row, as a comparison of two words. -/
def causal : IVec S512x2048 1 :=
  cmpi .sge (addi (iotaInDim S512x2048 32 0) (broadcastInDim S512x2048 ![] bcast_S_S512x2048 (constantI S_ 32 1024#32))) (iotaInDim S512x2048 32 1)

theorem causal_at (r : Fin 512) (c : Fin 2048) : causal (ix2 r c) = BitVec.ofBool (decide (c.val ≤ 1024 + r.val)) := by
  pointwise [causal]
  have hc := c.isLt
  have hr := r.isLt
  have e : IntOp.addi (BitVec.ofNat 32 r.val) 1024#32 = BitVec.ofNat 32 (1024 + r.val) := by
    apply BitVec.eq_of_toNat_eq
    simp [IntOp.addi]
    omega
  rw [e]
  show BitVec.ofBool ((BitVec.ofNat 32 c.val).sle (BitVec.ofNat 32 (1024 + r.val))) = _
  rw [BitVec.sle_eq_decide, BitVec.toInt_eq_toNat_of_lt (by simp; omega), BitVec.toInt_eq_toNat_of_lt (by simp; omega)]
  simp only [BitVec.toNat_ofNat]
  rw [Nat.mod_eq_of_lt (by omega), Nat.mod_eq_of_lt (by omega)]
  congr 2
  exact propext (by omega)

theorem mask_at (r : Fin 512) (c : Fin 2048) (h : c.val ≤ 1024 + r.val) : mask (ix2 r c) = 0 := by
  show Scalar.select (causal (ix2 r c)) _ _ = _
  rw [Cert.Stage.sel_one ((causal_at r c).trans (congrArg BitVec.ofBool (decide_eq_true h)))]
  exact Ideal.ofBits_zero_f32

/-- The score at a column the query may see has no mask term. -/
theorem scores_at (r : Fin 512) (c : Fin 2048) (h : c.val ≤ 1024 + r.val) : scores q k w (ix3 0 r c) = plain q k w r c := by
  rw [scores_plain, mask_at r c h, add_zero]

/-- The order in which a row's scores are picked. -/
def order (x : FVec Ideal S1x512x2048 .f32) (r : Fin 512) : Fin 2048 → Fin 2048 :=
  sortedFrom (fun a b => FloatOps.cmpfTotal (F := Ideal) (φ := .f32) .gt (x (ix3 0 r a)) (x (ix3 0 r b)) == 1#1)

theorem along_last (r : Fin 512) (c a : Fin 2048) : Shape.Idx.along (s := S1x512x2048) (ix3 0 r c) 2 a = ix3 0 r a := by
  funext d
  match d with
  | ⟨0, _⟩ => rfl
  | ⟨1, _⟩ => rfl
  | ⟨2, _⟩ => rfl

theorem topK_at {K : ℕ} (hK : K ≤ 2048) (x : FVec Ideal S1x512x2048 .f32) (h : S1x512x2048.Slices (fun _ => 0) ⟨3, ![1, 512, K]⟩)
    (r : Fin 512) (p : Fin K) :
    (Host.topK ⟨3, ![1, 512, K]⟩ 2 (FloatOps.cmpfTotal (F := Ideal) (φ := .f32) .gt) x h).1 (ix3 0 r p) = x (ix3 0 r (order x r ⟨p, by omega⟩))
    ∧ (Host.topK ⟨3, ![1, 512, K]⟩ 2 (FloatOps.cmpfTotal (F := Ideal) (φ := .f32) .gt) x h).2 (ix3 0 r p)
      = BitVec.ofNat 32 (order x r ⟨p, by omega⟩).val := by
  have e : ∀ a : Fin 2048, Shape.Idx.along (s := S1x512x2048) (ix3 0 r ⟨p, by omega⟩) 2 a = ix3 0 r a := along_last r _
  have f : (sortedFrom (fun a b : Fin 2048 => FloatOps.cmpfTotal (F := Ideal) (φ := .f32) .gt
      (x (Shape.Idx.along (s := S1x512x2048) (ix3 0 r ⟨p, by omega⟩) 2 a)) (x (Shape.Idx.along (s := S1x512x2048) (ix3 0 r ⟨p, by omega⟩) 2 b)) == 1#1))
      = order x r :=
    congrArg (fun g : Fin 2048 → Ideal .f32 => sortedFrom fun a b => FloatOps.cmpfTotal (F := Ideal) (φ := .f32) .gt (g a) (g b) == 1#1)
      (funext fun a => congrArg x (e a))
  constructor
  · show extractStridedSlice ⟨3, ![1, 512, K]⟩ (fun _ => 0) (Host.sort2 S1x512x2048 2 (fun a b => FloatOps.cmpfTotal (F := Ideal) (φ := .f32) .gt a.1 b.1) x
      (iotaInDim S1x512x2048 32 2)).1 h (ix3 0 r p) = _
    refine (extractStridedSlice_apply _ _ h (ix3 0 r p) (ix3 0 r ⟨p, by omega⟩) fun a => ?_).trans ?_
    · match a with
      | ⟨0, _⟩ => rfl
      | ⟨1, _⟩ => exact (Nat.zero_add _).symm
      | ⟨2, _⟩ => exact (Nat.zero_add _).symm
    · exact congrArg x ((e _).trans (congrArg (ix3 0 r) (congrFun f ⟨p, by omega⟩)))
  · show extractStridedSlice ⟨3, ![1, 512, K]⟩ (fun _ => 0) (Host.sort2 S1x512x2048 2 (fun a b => FloatOps.cmpfTotal (F := Ideal) (φ := .f32) .gt a.1 b.1) x
      (iotaInDim S1x512x2048 32 2)).2 h (ix3 0 r p) = _
    refine (extractStridedSlice_apply _ _ h (ix3 0 r p) (ix3 0 r ⟨p, by omega⟩) fun a => ?_).trans ?_
    · match a with
      | ⟨0, _⟩ => rfl
      | ⟨1, _⟩ => exact (Nat.zero_add _).symm
      | ⟨2, _⟩ => exact (Nat.zero_add _).symm
    · refine Eq.trans (b := iotaInDim S1x512x2048 32 2 (ix3 0 r (order x r ⟨p, by omega⟩))) ?_ rfl
      exact congrArg (iotaInDim S1x512x2048 32 2) ((e _).trans (congrArg (ix3 0 r) (congrFun f ⟨p, by omega⟩)))

theorem order_surjective (x : FVec Ideal S1x512x2048 .f32) (r : Fin 512) : Function.Surjective (order x r) := sortedFrom_surjective _

theorem order_mono (x : FVec Ideal S1x512x2048 .f32) (r : Fin 512) (i j : Fin 2048) (h : i < j) :
    x (ix3 0 r (order x r j)) ≤ x (ix3 0 r (order x r i)) := Cert.Order.sorted_mono (fun c => x (ix3 0 r c)) i j h

theorem of_bit {p : Prop} [Decidable p] (h : BitVec.ofBool (decide p) = 1#1) : p := by
  by_contra hn
  rw [decide_eq_false hn] at h
  exact absurd h (by decide)

section Separate
variable [Cert.Pre_scores_separate_2.Facts]
open Cert.Pre_scores_separate_2.Facts hiding bcast_S512x2048_S1x512x2048_1_2

theorem separate_fn : Cert.Pre_scores_separate_2.fn (F := Ideal) q k w =
    (ori (broadcastInDim S1x512x2048 ![1, 2] bcast_S512x2048_S1x512x2048_1_2 causal)
      (cmpf .olt (scores q k w) (broadcastInDim S1x512x2048 ![] bcast_S_S1x512x2048 (constant S_ .f32 0xCCBEBC20#32))),
     cmpf .ogt (extractStridedSlice S1x512x512 ![0, 0, 0] (Host.topK ⟨3, ![1, 512, 513]⟩ 2 (FloatOps.cmpfTotal .gt) (scores q k w) sliceFits_S1x512x2048_S1x512x513).1
        slices_S1x512x513_S1x512x512_0_0_0)
      (extractStridedSlice S1x512x512 ![0, 0, 1] (Host.topK ⟨3, ![1, 512, 513]⟩ 2 (FloatOps.cmpfTotal .gt) (scores q k w) sliceFits_S1x512x2048_S1x512x513).1
        slices_S1x512x513_S1x512x512_0_0_1),
     cmpf .oge (extractStridedSlice S1x512x512 ![0, 0, 0] (Host.topK ⟨3, ![1, 512, 513]⟩ 2 (FloatOps.cmpfTotal .gt) (scores q k w) sliceFits_S1x512x2048_S1x512x513).1
        slices_S1x512x513_S1x512x512_0_0_0)
      (broadcastInDim S1x512x512 ![] bcast_S_S1x512x512 (constant S_ .f32 0xCCBEBC20#32))) := rfl

/-- What the precondition says of a row. -/
theorem separate_row (h1 : (Cert.Pre_scores_separate_2.fn (F := Ideal) q k w).1 = fun _ => 1#1)
    (h2 : (Cert.Pre_scores_separate_2.fn (F := Ideal) q k w).2.1 = fun _ => 1#1)
    (h3 : (Cert.Pre_scores_separate_2.fn (F := Ideal) q k w).2.2 = fun _ => 1#1) (r : Fin 512) :
    (∀ c : Fin 2048, c.val ≤ 1024 + r.val ∨ scores q k w (ix3 0 r c) < Ideal.ofBits .f32 0xCCBEBC20#32)
    ∧ (∀ p (hp : p < 512), scores q k w (ix3 0 r (order (scores q k w) r ⟨p + 1, by omega⟩))
        < scores q k w (ix3 0 r (order (scores q k w) r ⟨p, by omega⟩)))
    ∧ ∀ p (hp : p < 512), Ideal.ofBits .f32 0xCCBEBC20#32 ≤ scores q k w (ix3 0 r (order (scores q k w) r ⟨p, by omega⟩)) := by
  rw [separate_fn] at h1 h2 h3
  refine ⟨fun c => ?_, fun p hp => ?_, fun p hp => ?_⟩
  · have e := congrFun h1 (ix3 0 r c)
    have e1 : broadcastInDim S1x512x2048 ![1, 2] Gen.bcast_S512x2048_S1x512x2048_1_2 causal (ix3 0 r c) = causal (ix2 r c) :=
      broadcastInDim_apply _ _ _ _ _ fun a => by match a with | ⟨0, _⟩ => rfl | ⟨1, _⟩ => rfl
    have e2 : IntOp.ori (causal (ix2 r c)) (BitVec.ofBool (decide (scores q k w (ix3 0 r c) < Ideal.ofBits .f32 0xCCBEBC20#32))) = 1#1 := by
      rw [← e1]
      exact e
    rw [causal_at] at e2
    by_contra hn
    rw [not_or] at hn
    rw [decide_eq_false hn.1, decide_eq_false hn.2] at e2
    exact absurd e2 (by decide)
  · have e := congrFun h2 (ix3 0 r ⟨p, hp⟩)
    have e0 := (topK_at (K := 513) (by norm_num) (scores q k w) sliceFits_S1x512x2048_S1x512x513 r ⟨p, by omega⟩).1
    have e1 := (topK_at (K := 513) (by norm_num) (scores q k w) sliceFits_S1x512x2048_S1x512x513 r ⟨p + 1, by omega⟩).1
    rw [← e0, ← e1]
    have f0 := extractStridedSlice_apply ![0, 0, 0] (Host.topK ⟨3, ![1, 512, 513]⟩ 2 (FloatOps.cmpfTotal .gt) (scores q k w) sliceFits_S1x512x2048_S1x512x513).1
        slices_S1x512x513_S1x512x512_0_0_0 (ix3 0 r ⟨p, hp⟩) (ix3 0 r ⟨p, by omega⟩) fun a => by
      match a with
      | ⟨0, _⟩ => rfl
      | ⟨1, _⟩ => exact (Nat.zero_add _).symm
      | ⟨2, _⟩ => exact (Nat.zero_add _).symm
    have f1 := extractStridedSlice_apply ![0, 0, 1] (Host.topK ⟨3, ![1, 512, 513]⟩ 2 (FloatOps.cmpfTotal .gt) (scores q k w) sliceFits_S1x512x2048_S1x512x513).1
        slices_S1x512x513_S1x512x512_0_0_1 (ix3 0 r ⟨p, hp⟩) (ix3 0 r ⟨p + 1, by omega⟩) fun a => by
      match a with
      | ⟨0, _⟩ => rfl
      | ⟨1, _⟩ => exact (Nat.zero_add _).symm
      | ⟨2, _⟩ => exact Nat.add_comm _ _
    rw [← f0, ← f1]
    exact of_bit e
  · have e := congrFun h3 (ix3 0 r ⟨p, hp⟩)
    have e0 := (topK_at (K := 513) (by norm_num) (scores q k w) sliceFits_S1x512x2048_S1x512x513 r ⟨p, by omega⟩).1
    rw [← e0]
    have f0 := extractStridedSlice_apply ![0, 0, 0] (Host.topK ⟨3, ![1, 512, 513]⟩ 2 (FloatOps.cmpfTotal .gt) (scores q k w) sliceFits_S1x512x2048_S1x512x513).1
        slices_S1x512x513_S1x512x512_0_0_0 (ix3 0 r ⟨p, hp⟩) (ix3 0 r ⟨p, by omega⟩) fun a => by
      match a with
      | ⟨0, _⟩ => rfl
      | ⟨1, _⟩ => exact (Nat.zero_add _).symm
      | ⟨2, _⟩ => exact (Nat.zero_add _).symm
    rw [← f0]
    exact of_bit e

end Separate

end Cert.Ref
-- ==== Proof.Body.lean ====
module

public import proofs.«01_k».proof.Proof.Tie
public import proofs.«01_k».proof.Proof.Ref

@[expose] public section

/-! # One row of a block of results against the reference -/

noncomputable section

namespace Cert.Body

open Idealize.ShloMosaic Cert.Kernel2Ideal Cert.Kernel2Ideal.Gen Cert.Kernel2Ideal.Gen.kernelRun0_A Cert.Stage

variable (c : Dev nD) (i : grid0.Coords)
  (a1 : Memref sig .tc .vmem S256x2048 .bf16) (h1 : a1.IsWhole) (a2 : Memref sig .tc .vmem S1536x128 .bf16) (h2 : a2.IsWhole)
  (a3 : Memref sig .tc .vmem S256x16 .f32) (h3 : a3.IsWhole)
  (a4 : Memref sig .tc .vmem S256x512 .f32) (h4 : a4.IsWhole) (a5 : Memref sig .tc .vmem S256x512 .i32) (h5 : a5.IsWhole)
  (x0 : Vec Ideal S256x2048 .bf16) (x1 : Vec Ideal S1536x128 .bf16) (x2 : Vec Ideal S256x16 .f32)

theorem out_scores : out0_A_3 (F := Ideal) c i a1 h1 a2 h2 a3 h3 a4 h4 a5 h5 x0 x1 x2
    = final (network (sl.r_5 c i a1 h1 a2 h2 a3 h3 x0 x1 x2, k0_pay7)).1 := by
  have e := congrArg Prod.fst (stored (F := Ideal) c i a1 h1 a2 h2 a3 h3 x0 x1 x2)
  dsimp only at e
  rw [← e]
  unfold out0_A_3
  rw [View.read_writes_eq_canon _ _ _ (cover0_A_3 c i a1 h1 a2 h2 a3 h3 a4 h4 a5 h5 x0 x1 x2)]
  unfold kernelRun0_A
  dsimp only
  rw [View.canon_unit_zero offset_zero]

theorem out_columns : out0_A_4 (F := Ideal) c i a1 h1 a2 h2 a3 h3 a4 h4 a5 h5 x0 x1 x2
    = (network (F := Ideal) (sl.r_5 c i a1 h1 a2 h2 a3 h3 x0 x1 x2, k0_pay7)).2 := by
  have e := congrArg Prod.snd (stored (F := Ideal) c i a1 h1 a2 h2 a3 h3 x0 x1 x2)
  dsimp only at e
  rw [← e]
  unfold out0_A_4
  rw [View.read_writes_eq_canon _ _ _ (cover0_A_4 c i a1 h1 a2 h2 a3 h3 a4 h4 a5 h5 x0 x1 x2)]
  unfold kernelRun0_A
  dsimp only
  rw [View.canon_unit_zero offset_zero]

variable (q : FVec Ideal S2048x2048 .bf16) (k : FVec Ideal S2048x128 .bf16) (w : FVec Ideal S2048x16 .f32)

/-- The blocks a grid point reads, as parts of the arrays. -/
structure Blocks (n : ℕ) (hn : n < 2) : Prop where
  query : ∀ (r : Fin 256) (d : Fin 2048), x0 (ValueIdx.ix2 r d) = q (ix2 ⟨1024 + 256 * n + r, by omega⟩ d)
  key : ∀ (p : Fin 1536) (d : Fin 128), x1 (ValueIdx.ix2 p d) = k (ix2 ⟨p, by omega⟩ d)
  weight : ∀ (r : Fin 256) (h : Fin 16), x2 (ValueIdx.ix2 r h) = w (ix2 ⟨1024 + 256 * n + r, by omega⟩ h)

/-- What the precondition says of a row of the scores. -/
structure Separate (R : Fin 512) : Prop where
  behind : ∀ p : Fin 2048, p.val ≤ 1024 + R.val ∨ Cert.Ref.scores q k w (ix3 0 R p) < Ideal.ofBits .f32 0xCCBEBC20#32
  apart : ∀ p (hp : p < 512), Cert.Ref.scores q k w (ix3 0 R (Cert.Ref.order (Cert.Ref.scores q k w) R ⟨p + 1, by omega⟩))
    < Cert.Ref.scores q k w (ix3 0 R (Cert.Ref.order (Cert.Ref.scores q k w) R ⟨p, by omega⟩))
  above : ∀ p (hp : p < 512), Ideal.ofBits .f32 0xCCBEBC20#32
    ≤ Cert.Ref.scores q k w (ix3 0 R (Cert.Ref.order (Cert.Ref.scores q k w) R ⟨p, by omega⟩))

/-- A row's scores as a function of the column. -/
def rowOf (R : Fin 512) (p : ℕ) : EReal := if h : p < 2048 then Cert.Ref.scores q k w (ix3 0 R ⟨p, h⟩) else 0

theorem rowOf_fin (R : Fin 512) (p : Fin 2048) : rowOf q k w R p = Cert.Ref.scores q k w (ix3 0 R p) := dif_pos p.isLt

variable {x0 x1 x2 q k w} in
theorem net_row (hb : Blocks x0 x1 x2 q k w (i 0).val (i 0).isLt) (r : Fin 256)
    (hs : Separate q k w ⟨256 * (i 0).val + r, by have : (i 0).val < 2 := (i 0).isLt; omega⟩) (p : Fin 512) :
    ((network (sl.r_5 c i a1 h1 a2 h2 a3 h3 x0 x1 x2, k0_pay7)).1 (ValueIdx.ix2 r p),
      (network (F := Ideal) (sl.r_5 c i a1 h1 a2 h2 a3 h3 x0 x1 x2, k0_pay7)).2 (ValueIdx.ix2 r p))
    = (Cert.Ref.scores q k w (ix3 0 ⟨256 * (i 0).val + r, by have : (i 0).val < 2 := (i 0).isLt; omega⟩
        (Cert.Ref.order (Cert.Ref.scores q k w) ⟨256 * (i 0).val + r, by have : (i 0).val < 2 := (i 0).isLt; omega⟩ ⟨p, by omega⟩)),
      BitVec.ofNat 32 (Cert.Ref.order (Cert.Ref.scores q k w) ⟨256 * (i 0).val + r, by have : (i 0).val < 2 := (i 0).isLt; omega⟩ ⟨p, by omega⟩).val) := by
  have hi : (i 0).val < 2 := (i 0).isLt
  generalize hR : (⟨256 * (i 0).val + r, by omega⟩ : Fin 512) = R at hs ⊢
  have hR' : R.val = 256 * (i 0).val + r := by rw [← hR]
  have e := network_reads (block_reads c i a1 h1 a2 h2 a3 h3 x0 x1 x2 r) p p.isLt
  rw [Fin.eta] at e
  refine e.trans ?_
  have := Cert.Order.net3_row (S := rowOf q k w R) (K := keyOf x0 x1 x2 (i 0).val r) (N := Ideal.ofBits .f32 0xCCBEBC20#32)
    (row := 1024 + R.val) (by omega) (π := Cert.Ref.order (Cert.Ref.scores q k w) R) (Cert.Ref.order_surjective _ R)
    (fun a b hab => by
      rw [rowOf_fin, rowOf_fin]
      exact Cert.Ref.order_mono _ R a b hab)
    (fun p hp => by
      have := hs.behind ⟨p, hp⟩
      rwa [← rowOf_fin] at this)
    (fun p hp => by
      rw [rowOf_fin, rowOf_fin]
      exact hs.apart p hp)
    (fun p hp => by
      rw [rowOf_fin]
      exact hs.above p hp)
    (fun p hp => by
      have hp' : p < 1536 := by omega
      unfold keyOf rowOf
      rw [dif_pos hp', if_neg (by omega), dif_pos (by omega), Cert.Ref.scores_at q k w R ⟨p, by omega⟩ hp]
      unfold Cert.Ref.plain
      have e : ∀ h : 1024 + 256 * (i 0).val + r < 2048, (⟨1024 + 256 * (i 0).val + r, h⟩ : Fin 2048) = ⟨1024 + R, by omega⟩ := fun h =>
        Fin.ext (by show 1024 + 256 * (i 0).val + r.val = 1024 + R.val; omega)
      simp only [hb.query, hb.key, hb.weight, e])
    (fun p hp hp' => by
      unfold keyOf
      rw [dif_pos hp', if_pos (by omega)]
      exact masked_lt p hp')
    p p.isLt
  rw [this, rowOf_fin]

variable {x0 x1 x2 q k w} in
theorem scores_row (hb : Blocks x0 x1 x2 q k w (i 0).val (i 0).isLt) (r : Fin 256)
    (hs : Separate q k w ⟨256 * (i 0).val + r, by have : (i 0).val < 2 := (i 0).isLt; omega⟩) (p : Fin 512) :
    out0_A_3 (F := Ideal) c i a1 h1 a2 h2 a3 h3 a4 h4 a5 h5 x0 x1 x2 (ValueIdx.ix2 r p)
    = Cert.Ref.scores q k w (ix3 0 ⟨256 * (i 0).val + r, by have : (i 0).val < 2 := (i 0).isLt; omega⟩
        (Cert.Ref.order (Cert.Ref.scores q k w) ⟨256 * (i 0).val + r, by have : (i 0).val < 2 := (i 0).isLt; omega⟩ ⟨p, by omega⟩)) := by
  have e := congrArg Prod.fst (net_row c i a1 h1 a2 h2 a3 h3 hb r hs p)
  dsimp only at e
  rw [out_scores, ← e]
  have g := hs.above p p.isLt
  rw [← e] at g
  refine sel_not (fun f => ?_) _ _
  exact absurd (Cert.Ref.of_bit f) (not_lt.2 g)

variable {x0 x1 x2 q k w} in
theorem columns_row (hb : Blocks x0 x1 x2 q k w (i 0).val (i 0).isLt) (r : Fin 256)
    (hs : Separate q k w ⟨256 * (i 0).val + r, by have : (i 0).val < 2 := (i 0).isLt; omega⟩) (p : Fin 512) :
    out0_A_4 (F := Ideal) c i a1 h1 a2 h2 a3 h3 a4 h4 a5 h5 x0 x1 x2 (ValueIdx.ix2 r p)
    = BitVec.ofNat 32 (Cert.Ref.order (Cert.Ref.scores q k w) ⟨256 * (i 0).val + r, by have : (i 0).val < 2 := (i 0).isLt; omega⟩ ⟨p, by omega⟩).val := by
  rw [out_columns]
  exact congrArg Prod.snd (net_row c i a1 h1 a2 h2 a3 h3 hb r hs p)

end Cert.Body
-- ==== Proof.Arrays.lean ====
module

public import proofs.«01_k».proof.Proof.Body
public import proofs.«01_k».proof.Proof.Gen.Kernel2Ideal.Value
public import proofs.«01_k».proof.Proof.Gen.Reference2Ideal.Run

@[expose] public section

/-! # The arrays the program leaves are the reference's -/

noncomputable section

namespace Cert.Arrays

open Idealize.ShloMosaic Idealize.ShloMosaic.TcCoe Idealize.SL.Sem Cert.Kernel2Ideal Cert.Kernel2Ideal.Gen

variable (m : (ℓ : Loc nD τ sig) → Buf (Elt Ideal) ℓ) (c : Dev nD)

abbrev q : FVec Ideal S2048x2048 .bf16 := m ((c : Thread nD τ).loc main_arg0)
abbrev k : FVec Ideal S2048x128 .bf16 := m ((c : Thread nD τ).loc main_arg1)
abbrev w : FVec Ideal S2048x16 .f32 := m ((c : Thread nD τ).loc main_arg2)

theorem index0 : ∀ t : Fin cfg0.N, win0_0.index t = ![4 + (grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![4 + (grid0.coords t 0).val, 0] := (by decide +kernel : ∀ t : Fin grid0.N, _)
theorem index3 : ∀ t : Fin cfg0.N, win0_3.index t = ![(grid0.coords t 0).val, 0] := (by decide +kernel : ∀ t : Fin grid0.N, _)
theorem index4 : ∀ t : Fin cfg0.N, win0_4.index t = ![(grid0.coords t 0).val, 0] := (by decide +kernel : ∀ t : Fin grid0.N, _)

theorem blocks (t : Fin cfg0.N) : Cert.Body.Blocks (iblk m c 0 t) (X0_1 m c t) (iblk m c 2 t) (q m c) (k m c) (w m c)
    (grid0.coords t 0).val (grid0.coords t 0).isLt where
  query r d := by
    blk_simp [iblk]
    refine congrArg (q m c) ?_
    blk_ext [index0]
    show (4 + (grid0.coords t 0).val) * 256 + r.val = _
    omega
  key p d := by
    unfold X0_1 Pipeline.Window.fill
    rw [dif_pos (moved0_1 t _)]
    blk_simp [iblk]
    refine congrArg (k m c) ?_
    blk_ext [index1]
  weight r h := by
    blk_simp [iblk]
    refine congrArg (w m c) ?_
    blk_ext [index2]
    show (4 + (grid0.coords t 0).val) * 256 + r.val = _
    omega

/-- The reference's scores of the memory's arrays. -/
abbrev table : FVec Ideal ⟨3, ![1, 512, 2048]⟩ .f32 := Cert.Ref.scores (q m c) (k m c) (w m c)

/-- The reference's sorted scores and columns of the memory's arrays. -/
abbrev top : FVec Ideal ⟨3, ![1, 512, 512]⟩ .f32 × IVec ⟨3, ![1, 512, 512]⟩ 32 :=
  Host.topK ⟨3, ![1, 512, 512]⟩ 2 (FloatOps.cmpfTotal .gt) (table m c) Cert.Reference2Ideal.Gen.sliceFits_S1x512x2048_S1x512x512

theorem place3 (t : Fin cfg0.N) (r : Fin 256) (p : Fin 512) :
    (win0_3.blk t).view.emb (ValueIdx.ix2 r p) = ValueIdx.ix2 ⟨256 * (grid0.coords t 0).val + r, by have : (grid0.coords t 0).val < 2 := (grid0.coords t 0).isLt; omega⟩ p := by
  blk_ext [index3]
  show (grid0.coords t 0).val * 256 + r.val = _
  omega

theorem place4 (t : Fin cfg0.N) (r : Fin 256) (p : Fin 512) :
    (win0_4.blk t).view.emb (ValueIdx.ix2 r p) = ValueIdx.ix2 ⟨256 * (grid0.coords t 0).val + r, by have : (grid0.coords t 0).val < 2 := (grid0.coords t 0).isLt; omega⟩ p := by
  blk_ext [index4]
  show (grid0.coords t 0).val * 256 + r.val = _
  omega

/-- A row of the scores a step leaves. -/
theorem scores_step (hs : ∀ R : Fin 512, Cert.Body.Separate (q m c) (k m c) (w m c) R) (t : Fin cfg0.N) (r : Fin 256) (p : Fin 512) :
    (outsAt0 m c t).1 (ValueIdx.ix2 r p)
    = (top m c).1 (ix3 0 ⟨256 * (grid0.coords t 0).val + r, by have : (grid0.coords t 0).val < 2 := (grid0.coords t 0).isLt; omega⟩ p) := by
  unfold outsAt0
  have e := Cert.Body.scores_row c (grid0.coords t) (ms0_0 t) (hs0_0 t) (ms0_1 t) (hs0_1 t) (ms0_2 t) (hs0_2 t) (ms0_3 t) (hs0_3 t) (ms0_4 t)
    (hs0_4 t) (blocks m c t) r (hs _) p
  have g := (Cert.Ref.topK_at (K := 512) (by norm_num) (table m c) Cert.Reference2Ideal.Gen.sliceFits_S1x512x2048_S1x512x512
    ⟨256 * (grid0.coords t 0).val + r, by have : (grid0.coords t 0).val < 2 := (grid0.coords t 0).isLt; omega⟩ p).1
  dsimp only
  refine e.trans ?_
  exact g.symm

/-- A row of the columns a step leaves. -/
theorem columns_step (hs : ∀ R : Fin 512, Cert.Body.Separate (q m c) (k m c) (w m c) R) (t : Fin cfg0.N) (r : Fin 256) (p : Fin 512) :
    (outsAt0 m c t).2 (ValueIdx.ix2 r p)
    = (top m c).2 (ix3 0 ⟨256 * (grid0.coords t 0).val + r, by have : (grid0.coords t 0).val < 2 := (grid0.coords t 0).isLt; omega⟩ p) := by
  unfold outsAt0
  have e := Cert.Body.columns_row c (grid0.coords t) (ms0_0 t) (hs0_0 t) (ms0_1 t) (hs0_1 t) (ms0_2 t) (hs0_2 t) (ms0_3 t) (hs0_3 t) (ms0_4 t)
    (hs0_4 t) (blocks m c t) r (hs _) p
  have g := (Cert.Ref.topK_at (K := 512) (by norm_num) (table m c) Cert.Reference2Ideal.Gen.sliceFits_S1x512x2048_S1x512x512
    ⟨256 * (grid0.coords t 0).val + r, by have : (grid0.coords t 0).val < 2 := (grid0.coords t 0).isLt; omega⟩ p).2
  dsimp only
  refine e.trans ?_
  exact g.symm

/-- The program's scores are the reference's. -/
theorem first (hs : ∀ R : Fin 512, Cert.Body.Separate (q m c) (k m c) (w m c) R) :
    (dats m 0 c).arrAt 3 cfg0.N = shapeCast S512x512 (top m c).1 Cert.Reference2Ideal.Gen.shapeCasts_S1x512x512_S512x512 := by
  have g := scores_step m c hs
  generalize top m c = x at g ⊢
  refine (dats m 0 c).arrAt_eq_of_covers 3 _ (by decide +kernel) fun t hf y => ?_
  blk_simp
  rw [after0_3]
  obtain ⟨r, p, rfl⟩ : ∃ (r : Fin 256) (p : Fin 512), y = ValueIdx.ix2 r p := ⟨y 0, y 1, ValueIdx.eq_ix2 y⟩
  refine (g t r p).trans ?_
  refine Eq.trans ?_ (congrArg (shapeCast S512x512 x.1 _) (place3 t r p).symm)
  rw [ValueIdx.shapeCast_1ab_ab_apply]
  rfl

/-- The program's columns are the reference's. -/
theorem second (hs : ∀ R : Fin 512, Cert.Body.Separate (q m c) (k m c) (w m c) R) :
    (dats m 0 c).arrAt 4 cfg0.N = shapeCast S512x512 (top m c).2 Cert.Reference2Ideal.Gen.shapeCasts_S1x512x512_S512x512 := by
  have g := columns_step m c hs
  generalize top m c = x at g ⊢
  refine (dats m 0 c).arrAt_eq_of_covers 4 _ (by decide +kernel) fun t hf y => ?_
  blk_simp
  rw [after0_4]
  obtain ⟨r, p, rfl⟩ : ∃ (r : Fin 256) (p : Fin 512), y = ValueIdx.ix2 r p := ⟨y 0, y 1, ValueIdx.eq_ix2 y⟩
  refine (g t r p).trans ?_
  refine Eq.trans ?_ (congrArg (shapeCast S512x512 x.2 _) (place4 t r p).symm)
  rw [ValueIdx.shapeCast_1ab_ab_apply]
  rfl

end Cert.Arrays
-- ==== Proof.Hadamard.lean ====
module

public import proofs.«01_k».proof.Proof.Gen.KernelHIdeal.Value
public import proofs.«01_k».proof.Proof.Gen.ReferenceHIdeal.Run
public import Idealize.ShloMosaic.Lib.MatmulPlain
public import Idealize.ShloMosaic.Lib.IdealHost
public import Idealize.ShloMosaic.Lib.Pipeline.ValueKit
public import Idealize.ShloMosaic.Lib.Pointwise

@[expose] public section

/-! # The Hadamard products of the queries and the keys -/

noncomputable section

namespace Cert.Hadamard

open Idealize.ShloMosaic Cert.ReferenceHIdeal Cert.ReferenceHIdeal.Gen
open scoped BigOperators

/-- The scale 1 / sqrt(128), as the programs have it. -/
def scale : EReal := Ideal.ofBits .f32 0x3DB504F3#32

/-- One entry of a product: 128 features against a column of the matrix, scaled. -/
def entry (x : Fin 128 → EReal) (b : Fin 128 → Fin 128 → EReal) (d : Fin 128) : EReal := (∑ e, x e * b e d) * scale

section Reference
variable (x : FVec Ideal S1x2048x16x128 .f32) (y : FVec Ideal S1x2048x128 .f32) (b : FVec Ideal S128x128 .f32)

/-- The reference's queries by head. -/
def heads : FVec Ideal S1x2048x16x128 .f32 :=
  mulf (Host.dotGeneral dot_S1x2048x16x128_S128x128_S1x2048x16x128_3_0_012_1_n_n none x b)
    (broadcastInDim S1x2048x16x128 ![] bcast_S_S1x2048x16x128 (constant S_ .f32 0x3DB504F3#32))

/-- The reference's queries. -/
def queries : FVec Ideal S2048x2048 .bf16 := truncf .bf16 (shapeCast _ (heads x b) shapeCasts_S1x2048x16x128_S2048x2048) bitsLt_bf16_f32

/-- The reference's keys. -/
def keys : FVec Ideal S2048x128 .bf16 :=
  truncf .bf16 (shapeCast _ (mulf (Host.dotGeneral dot_S1x2048x128_S128x128_S1x2048x128_2_0_01_1_n_n none y b)
    (broadcastInDim S1x2048x128 ![] bcast_S_S1x2048x128 (constant S_ .f32 0x3DB504F3#32))) shapeCasts_S1x2048x128_S2048x128) bitsLt_bf16_f32

theorem heads_ref (R : Fin 2048) (n : Fin 16) (d : Fin 128) :
    heads x b (ix4 0 R n d) = entry (fun e => x (ix4 0 R n e)) (fun e d => b (ix2 e d)) d := by
  pointwise [heads]
  rfl

theorem by_head (R : Fin 2048) (n : Fin 16) (d : Fin 128) :
    shapeCast S2048x2048 x shapeCasts_S1x2048x16x128_S2048x2048 (ix2 R ⟨128 * n + d, by omega⟩) = x (ix4 0 R n d) := by
  have e1 : (128 * n.val + d.val) / 128 = n := by omega
  have e2 : (128 * n.val + d.val) % 128 = d := by omega
  pointwise []

theorem queries_ref (R : Fin 2048) (n : Fin 16) (d : Fin 128) :
    queries x b (ix2 R ⟨128 * n + d, by omega⟩) = entry (fun e => x (ix4 0 R n e)) (fun e d => b (ix2 e d)) d :=
  (by_head (heads x b) R n d).trans (heads_ref x b R n d)

theorem one_batch (R : Fin 2048) (d : Fin 128) : shapeCast S2048x128 y shapeCasts_S1x2048x128_S2048x128 (ix2 R d) = y (ix3 0 R d) := by
  pointwise []

theorem keys_ref (R : Fin 2048) (d : Fin 128) : keys y b (ix2 R d) = entry (fun e => y (ix3 0 R e)) (fun e d => b (ix2 e d)) d := by
  refine (one_batch (mulf (Host.dotGeneral dot_S1x2048x128_S128x128_S1x2048x128_2_0_01_1_n_n none y b)
    (broadcastInDim S1x2048x128 ![] bcast_S_S1x2048x128 (constant S_ .f32 0x3DB504F3#32))) R d).trans ?_
  pointwise []
  rfl

end Reference

end Cert.Hadamard

namespace Cert.Hadamard

open Idealize.ShloMosaic hiding ix2 ix3 ix4
open Idealize.ShloMosaic.TcCoe Idealize.SL.Sem Cert.KernelHIdeal Cert.KernelHIdeal.Gen
open Idealize.ShloMosaic.ValueIdx
open scoped BigOperators

theorem product_at (x : FVec Ideal S256x128 .bf16) (b : FVec Ideal S128x128 .bf16) (r : Fin 256) (d : Fin 128) :
    matmul dot_S256x128_S128x128_S256x128_1_0_0_1_n_n none x b (constant S256x128 .f32 0x00000000#32) (ix2 r d)
      = ∑ e, (x (ix2 r e) : EReal) * b (ix2 e d) := by
  have e := Ideal.matmul_plain_apply none x b (constant S256x128 .f32 0x00000000#32) r d
  have e0 : constant (F := Ideal) S256x128 .f32 0x00000000#32 (ix2 r d) = (0 : EReal) := Ideal.ofBits_zero_f32
  rw [e0, zero_add] at e
  exact e

theorem fits (n : Fin 16) : S256x2048.Slices ![0, 128 * n.val] S256x128 := by
  revert n
  decide

/-- The product of one head. -/
def part (b : FVec Ideal S128x128 .bf16) (x : FVec Ideal S256x2048 .f32) (n : Fin 16) : FVec Ideal S256x128 .f32 :=
  matmul dot_S256x128_S128x128_S256x128_1_0_0_1_n_n none
    (extractStridedSlice S256x128 ![0, 128 * n.val] (truncf .bf16 x bitsLt_bf16_f32) (fits n)) b (constant S256x128 .f32 0x00000000#32)

theorem part_at (b : FVec Ideal S128x128 .bf16) (x : FVec Ideal S256x2048 .f32) (n : Fin 16) (r : Fin 256) (d : Fin 128) :
    part b x n (ix2 r d) = ∑ e : Fin 128, (x (ix2 r ⟨128 * n + e, by omega⟩) : EReal) * b (ix2 e d) := by
  unfold part
  rw [product_at]
  refine Finset.sum_congr rfl fun e _ => congrArg (· * (b (ix2 e d) : EReal)) ?_
  exact extractStridedSlice_apply _ _ (fits n) (ix2 r e) (ix2 r ⟨128 * n + e, by omega⟩) fun a => by
    match a with
    | ⟨0, _⟩ => exact (Nat.zero_add _).symm
    | ⟨1, _⟩ => rfl

theorem joined : Shape.Concatenates ((List.ofFn fun _ : Fin 16 => (S256x128 : Shape)).map id) S256x2048 1 := by decide

theorem queries_eq (b : FVec Ideal S128x128 .bf16) (x : FVec Ideal S256x2048 .f32) (h) :
    k0_pay1 (F := Ideal) (k0_pay3 b x) k0_pay4 = truncf .bf16 (mulf (concatenate S256x2048 1
      (List.ofFn fun n : Fin 16 => (⟨S256x128, part b x n⟩ : (s : Shape) × (s.Idx → Ideal .f32))) h)
      (broadcast S256x2048 (Scalar.ofBits (F := Ideal) .f32 0x3DB504F3#32))) bitsLt_bf16_f32 := by
  unfold k0_pay3
  rw [shapeCast_self]
  rfl

theorem queries_at (b : FVec Ideal S128x128 .bf16) (x : FVec Ideal S256x2048 .f32) (r : Fin 256) (n : Fin 16) (d : Fin 128) :
    k0_pay1 (F := Ideal) (k0_pay3 b x) k0_pay4 (ix2 r ⟨128 * n + d, by omega⟩) = entry (fun e => x (ix2 r ⟨128 * n + e, by omega⟩)) (fun e d => b (ix2 e d)) d := by
  have hc : Shape.Concatenates ((List.ofFn fun n : Fin 16 => (⟨S256x128, part b x n⟩ : (s : Shape) × (s.Idx → Ideal .f32))).map (·.1))
      S256x2048 1 := joined
  rw [queries_eq b x hc]
  have e := concatenate_ofFn_apply (1 : Fin S256x2048.rank) (part b x) hc rfl 128 rfl (ix2 r ⟨128 * n + d, by omega⟩) n
    (by show (128 * n.val + d.val) / 128 = _; omega) (ix2 r d) (by show d.val = (128 * n.val + d.val) % 128; omega)
    (fun a ha => by
      match a with
      | ⟨0, _⟩ => rfl
      | ⟨1, _⟩ => exact absurd rfl ha)
  refine (congrArg (· * scale) (e.trans (part_at b x n r d))).trans ?_
  rfl

theorem keys_at (b : FVec Ideal S128x128 .bf16) (x : FVec Ideal S256x128 .f32) (r : Fin 256) (d : Fin 128) :
    k0_pay2 (F := Ideal) b x (ix2 r d) = entry (fun e => x (ix2 r e)) (fun e d => b (ix2 e d)) d := by
  unfold k0_pay2
  rw [shapeCast_self]
  exact congrArg (· * scale) (product_at (truncf .bf16 x bitsLt_bf16_f32) b r d)

theorem offset_zero : (![0, 0] : Fin 2 → Nat) = fun _ => 0 := funext fun a => by fin_cases a <;> rfl

theorem out_queries (x0 : Vec Ideal S256x2048 .f32) (x1 : Vec Ideal S256x128 .f32) (x2 : Vec Ideal S128x128 .bf16) :
    out0_3 x0 x1 x2 = k0_pay1 (k0_pay3 x2 x0) k0_pay4 := by
  unfold out0_3
  rw [View.canon_unit_zero offset_zero, View.ld_unit_zero (S := S128x128) offset_zero, View.ld_unit_zero (S := S256x2048) offset_zero]

theorem out_keys (x0 : Vec Ideal S256x2048 .f32) (x1 : Vec Ideal S256x128 .f32) (x2 : Vec Ideal S128x128 .bf16) :
    out0_4 x0 x1 x2 = k0_pay2 x2 x1 := by
  unfold out0_4
  rw [View.canon_unit_zero offset_zero, View.ld_unit_zero (S := S128x128) offset_zero, View.ld_unit_zero (S := S256x128) offset_zero]

theorem index0 : ∀ t : Fin cfg0.N, win0_0.index t = ![(grid0.coords t 0).val, 0] := (by decide +kernel : ∀ t : Fin grid0.N, _)
theorem index1 : ∀ t : Fin cfg0.N, win0_1.index t = ![(grid0.coords t 0).val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![(grid0.coords t 0).val, 0] := (by decide +kernel : ∀ t : Fin grid0.N, _)
theorem index4 : ∀ t : Fin cfg0.N, win0_4.index t = ![(grid0.coords t 0).val, 0] := (by decide +kernel : ∀ t : Fin grid0.N, _)

/-- The row of the arrays that a step has as its row r. -/
def rowAt (t : Fin cfg0.N) (r : Fin 256) : Fin 2048 :=
  ⟨256 * (grid0.coords t 0).val + r, by have : (grid0.coords t 0).val < 8 := (grid0.coords t 0).isLt; omega⟩

theorem query_read (A : FVec Ideal S2048x2048 .f32) (t : Fin cfg0.N) (r : Fin 256) (d : Fin 2048) :
    (win0_0.blk t).view.read (Elt Ideal) A (ix2 r d) = A (ix2 (rowAt t r) d) := by
  blk_simp
  refine congrArg A ?_
  blk_ext [index0]
  show (grid0.coords t 0).val * 256 + r.val = 256 * (grid0.coords t 0).val + r
  omega

theorem key_read (A : FVec Ideal S2048x128 .f32) (t : Fin cfg0.N) (r : Fin 256) (d : Fin 128) :
    (win0_1.blk t).view.read (Elt Ideal) A (ix2 r d) = A (ix2 (rowAt t r) d) := by
  blk_simp
  refine congrArg A ?_
  blk_ext [index1]
  show (grid0.coords t 0).val * 256 + r.val = 256 * (grid0.coords t 0).val + r
  omega

theorem matrix_read (A : FVec Ideal S128x128 .bf16) (t : Fin cfg0.N) (e d : Fin 128) :
    (win0_2.blk t).view.read (Elt Ideal) A (ix2 e d) = A (ix2 e d) := by
  blk_simp
  refine congrArg A ?_
  blk_ext [index2]

theorem place3 (t : Fin cfg0.N) (r : Fin 256) (p : Fin 2048) : (win0_3.blk t).view.emb (ix2 r p) = ix2 (rowAt t r) p := by
  blk_ext [index3]
  show (grid0.coords t 0).val * 256 + r.val = 256 * (grid0.coords t 0).val + r
  omega

theorem place4 (t : Fin cfg0.N) (r : Fin 256) (p : Fin 128) : (win0_4.blk t).view.emb (ix2 r p) = ix2 (rowAt t r) p := by
  blk_ext [index4]
  show (grid0.coords t 0).val * 256 + r.val = 256 * (grid0.coords t 0).val + r
  omega

theorem entry_congr {x y : Fin 128 → EReal} {a b : Fin 128 → Fin 128 → EReal} {d : Fin 128} (hx : ∀ e, x e = y e)
    (hb : ∀ e, a e d = b e d) : entry x a d = entry y b d :=
  congrArg (· * scale) (Finset.sum_congr rfl fun e _ => by rw [hx e, hb e])

variable (m : (ℓ : Loc nD τ sig) → Buf (Elt Ideal) ℓ) (c : Dev nD)
  (x : FVec Ideal S1x2048x16x128 .f32) (y : FVec Ideal S1x2048x128 .f32) (b : FVec Ideal S128x128 .f32)

/-- The program's queries are the reference's. -/
theorem first_of (hx : (V m c main_v70 : FVec Ideal S2048x2048 .f32) = shapeCast S2048x2048 x shapeCasts_S1x2048x16x128_S2048x2048)
    (hb : ∀ e d, (V m c main_cst : FVec Ideal S128x128 .bf16) (ix2 e d) = b (ix2 e d)) :
    (dats m 0 c).arrAt 3 cfg0.N = queries x b := by
  refine (dats m 0 c).arrAt_eq_of_covers 3 _ (by decide +kernel) fun t hf z => ?_
  blk_simp
  rw [after0_3, out_queries]
  obtain ⟨r, p, rfl⟩ : ∃ (r : Fin 256) (p : Fin 2048), z = ix2 r p := ⟨z 0, z 1, ValueIdx.eq_ix2 z⟩
  obtain ⟨n, d, rfl⟩ : ∃ (n : Fin 16) (d : Fin 128), p = ⟨128 * n + d, by omega⟩ :=
    ⟨⟨p / 128, by omega⟩, ⟨p % 128, by omega⟩, Fin.ext (Nat.div_add_mod _ _).symm⟩
  refine (queries_at _ _ r n d).trans ?_
  refine Eq.trans ?_ (congrArg (queries x b) (place3 t r _).symm)
  refine Eq.trans ?_ (queries_ref x b (rowAt t r) n d).symm
  refine entry_congr (fun e => ?_) fun e => ?_
  · exact (query_read _ t r _).trans ((congrFun hx _).trans (by_head x (rowAt t r) n e))
  · exact (matrix_read _ t e d).trans (hb e d)

/-- The program's keys are the reference's. -/
theorem second_of (hy : (V m c main_v71 : FVec Ideal S2048x128 .f32) = shapeCast S2048x128 y shapeCasts_S1x2048x128_S2048x128)
    (hb : ∀ e d, (V m c main_cst : FVec Ideal S128x128 .bf16) (ix2 e d) = b (ix2 e d)) :
    (dats m 0 c).arrAt 4 cfg0.N = keys y b := by
  refine (dats m 0 c).arrAt_eq_of_covers 4 _ (by decide +kernel) fun t hf z => ?_
  blk_simp
  rw [after0_4, out_keys]
  obtain ⟨r, d, rfl⟩ : ∃ (r : Fin 256) (d : Fin 128), z = ix2 r d := ⟨z 0, z 1, ValueIdx.eq_ix2 z⟩
  refine (keys_at _ _ r d).trans ?_
  refine Eq.trans ?_ (congrArg (keys y b) (place4 t r d).symm)
  refine Eq.trans ?_ (keys_ref y b (rowAt t r) d).symm
  refine entry_congr (fun e => ?_) fun e => ?_
  · exact (key_read _ t r _).trans ((congrFun hy _).trans (one_batch y (rowAt t r) e))
  · exact (matrix_read _ t e d).trans (hb e d)

end Cert.Hadamard
-- ==== Proof.Matrix.lean ====
module

public import proofs.«01_k».proof.Proof.Gen.KernelHIdeal.Value
public import proofs.«01_k».proof.Proof.Gen.ReferenceHIdeal.Run
public import Idealize.ShloMosaic.Lib.IdealHost

@[expose] public section

/-! # The Hadamard matrix -/

noncomputable section

namespace Cert.Hadamard

open Idealize.ShloMosaic

/-- Two words of one sign: one or minus one, in bf16 and in f32. -/
abbrev SameSign (a : BitVec 16) (b : BitVec 32) : Prop :=
  (a = 0x3F80#16 ∧ b = 0x3F800000#32) ∨ (a = 0xBF80#16 ∧ b = 0xBF800000#32)

theorem SameSign.value {a : BitVec 16} {b : BitVec 32} (h : SameSign a b) : Ideal.ofBits .bf16 a = Ideal.ofBits .f32 b := by
  rcases h with ⟨rfl, rfl⟩ | ⟨rfl, rfl⟩
  · exact Ideal.ofBits_one_bf16.trans Ideal.ofBits_one_f32.symm
  · rw [Ideal.ofBits_neg_one_bf16]
    simp [Ideal.ofBits, Ideal.ieee, -EReal.coe_mul, -EReal.coe_neg]
    norm_num

/-- The signs of eight rows agree. -/
abbrev EightRows (a : Fin 16) : Prop := ∀ i : Fin 8, ∀ j : Fin 128,
  SameSign (Cert.KernelHIdeal.lit0 ⟨1024 * a + 128 * i + j, by omega⟩) (Cert.ReferenceHIdeal.lit0 ⟨1024 * a + 128 * i + j, by omega⟩)

set_option maxHeartbeats 4000000 in
/-- All rows, eight at a time: deciding them all at once takes much memory. -/
theorem same_rows (a : Fin 16) : EightRows a := by
  fin_cases a <;> decide +kernel

theorem same_signs (i : Fin 16384) : SameSign (Cert.KernelHIdeal.lit0 i) (Cert.ReferenceHIdeal.lit0 i) := by
  have h := same_rows ⟨i / 1024, by omega⟩ ⟨i % 1024 / 128, by omega⟩ ⟨i % 128, by omega⟩
  have e : (⟨1024 * (i.val / 1024) + 128 * (i.val % 1024 / 128) + i.val % 128, by omega⟩ : Fin 16384) = i := Fin.ext (by dsimp only; omega)
  exact e ▸ h

/-- The two programs' matrices have the same entries. -/
theorem same_matrix (i : Fin 16384) :
    Ideal.ofBits .bf16 (Cert.KernelHIdeal.lit0 i) = Ideal.ofBits .f32 (Cert.ReferenceHIdeal.lit0 i) := (same_signs i).value

end Cert.Hadamard
-- ==== Proof.Rotated.lean ====
module

public import proofs.«01_k».proof.Proof.Gen.KernelHIdeal.Value
public import proofs.«01_k».proof.Proof.Gen.ReferenceHIdeal.Run
public import Idealize.ShloMosaic.Lib.IdealHost

@[expose] public section

/-! # The rotated queries and keys, before the Hadamard products -/

noncomputable section

namespace Cert.Hadamard

open Idealize.ShloMosaic Cert.ReferenceHIdeal Cert.ReferenceHIdeal.Gen

section Reference
variable (x : FVec Ideal S1x2048x2048 .f32) (qr : FVec Ideal S1x2048x1536 .f32) (wq : FVec Ideal S2048x1536 .f32)
  (wk : FVec Ideal S128x2048 .f32) (g h : FVec Ideal S128 .f32) (wt : FVec Ideal S16x2048 .f32) (cos sin : FVec Ideal S2048x32 .f32)

/-- The pairs of features of the queries, turned by their row's angles. -/
def turnQueries (a : FVec Ideal S1x2048x16x64 .f32) : FVec Ideal S1x2048x16x64 .f32 :=
  let even := Host.slice S1x2048x16x32 ![0, 0, 0, 0] ![1, 1, 1, 2] a slicesBy_S1x2048x16x64_S1x2048x16x32_0s1_0s1_0s1_0s2
  let odd := Host.slice S1x2048x16x32 ![0, 0, 0, 1] ![1, 1, 1, 2] a slicesBy_S1x2048x16x64_S1x2048x16x32_0s1_0s1_0s1_1s2
  let spread := fun y : FVec Ideal S2048x32 .f32 =>
    broadcastInDim S1x2048x16x32 ![0, 1, 2, 3] bcast_S1x2048x1x32_S1x2048x16x32_0_1_2_3
      (broadcastInDim S1x2048x1x32 ![1, 3] bcast_S2048x32_S1x2048x1x32_1_3 y)
  let last := fun y : FVec Ideal S1x2048x16x32 .f32 =>
    broadcastInDim S1x2048x16x32x1 ![0, 1, 2, 3] bcast_S1x2048x16x32_S1x2048x16x32x1_0_1_2_3 y
  shapeCast _ (concatenate S1x2048x16x32x2 4
    [⟨S1x2048x16x32x1, last (subf (mulf even (spread cos)) (mulf odd (spread sin)))⟩,
      ⟨S1x2048x16x32x1, last (addf (mulf even (spread sin)) (mulf odd (spread cos)))⟩]
    concatenates_S1x2048x16x32x1_S1x2048x16x32x1_S1x2048x16x32x2_d4) shapeCasts_S1x2048x16x32x2_S1x2048x16x64

/-- The projected queries by head. -/
def projected : FVec Ideal S1x2048x16x128 .f32 :=
  shapeCast _ (Host.dotGeneral dot_S1x2048x1536_S1536x2048_S1x2048x2048_2_0_01_1_n_n none qr
    (transpose S1536x2048 [1, 0] wq transposes_S2048x1536_S1536x2048_1_0)) shapeCasts_S1x2048x2048_S1x2048x16x128

/-- The rotated queries by head. -/
def rotatedQueries : FVec Ideal S1x2048x16x128 .f32 :=
  concatenate S1x2048x16x128 3
    [⟨S1x2048x16x64, turnQueries cos sin
        (extractStridedSlice S1x2048x16x64 ![0, 0, 0, 0] (projected qr wq) slices_S1x2048x16x128_S1x2048x16x64_0_0_0_0)⟩,
      ⟨S1x2048x16x64, extractStridedSlice S1x2048x16x64 ![0, 0, 0, 64] (projected qr wq) slices_S1x2048x16x128_S1x2048x16x64_0_0_0_64⟩]
    concatenates_S1x2048x16x64_S1x2048x16x64_S1x2048x16x128_d3

/-- The mean of each row. -/
def mean (y : FVec Ideal S1x2048x128 .f32) : FVec Ideal S1x2048x1 .f32 :=
  Host.divf (broadcastInDim S1x2048x1 ![0, 1] bcast_S1x2048_S1x2048x1_0_1
    (Host.reduceAdd y (constant S_ .f32 0x00000000#32) reducesTo_S1x2048x128_S1x2048_d2 h_S_))
    (broadcastInDim S1x2048x1 ![] bcast_S_S1x2048x1 (constant S_ .f32 0x43000000#32))

/-- The rows without their means. -/
def centred (y : FVec Ideal S1x2048x128 .f32) : FVec Ideal S1x2048x128 .f32 :=
  subf y (broadcastInDim S1x2048x128 ![0, 1, 2] bcast_S1x2048x1_S1x2048x128_0_1_2 (mean y))

/-- The number of features less the variance's correction, which is zero. -/
def count : FVec Ideal S_ .f32 := subf (constant S_ .f32 0x43000000#32) (sitofp .f32 (constantI S_ 32 0#32))

/-- The variance of each row. -/
def variance (y : FVec Ideal S1x2048x128 .f32) : FVec Ideal S1x2048x1 .f32 :=
  select (broadcastInDim S1x2048x1 ![] bcast_S_S1x2048x1 (cmpf .ogt count (constant S_ .f32 0x00000000#32)))
    (Host.divf (broadcastInDim S1x2048x1 ![0, 1] bcast_S1x2048_S1x2048x1_0_1
      (Host.reduceAdd (mulf (centred y) (centred y)) (constant S_ .f32 0x00000000#32) reducesTo_S1x2048x128_S1x2048_d2 h_S_))
      (broadcastInDim S1x2048x1 ![] bcast_S_S1x2048x1 count))
    (broadcastInDim S1x2048x1 ![] bcast_S_S1x2048x1 (id (constant S_ .f32 0x7FC00000#32)))

/-- The normalized keys. -/
def normalized : FVec Ideal S1x2048x128 .f32 :=
  let y := Host.dotGeneral dot_S1x2048x2048_S2048x128_S1x2048x128_2_0_01_1_n_n none x
    (transpose S2048x128 [1, 0] wk transposes_S128x2048_S2048x128_1_0)
  let row := fun z : FVec Ideal S128 .f32 =>
    broadcastInDim S1x2048x128 ![0, 1, 2] bcast_S1x1x128_S1x2048x128_0_1_2 (broadcastInDim S1x1x128 ![2] bcast_S128_S1x1x128_2 z)
  addf (mulf (Host.divf (centred y) (broadcastInDim S1x2048x128 ![0, 1, 2] bcast_S1x2048x1_S1x2048x128_0_1_2
    (Host.sqrt (addf (variance y) (broadcastInDim S1x2048x1 ![] bcast_S_S1x2048x1 (constant S_ .f32 0x358637BD#32)))))) (row g)) (row h)

/-- The pairs of features of the keys, turned by their row's angles. -/
def turnKeys (a : FVec Ideal S1x2048x1x64 .f32) : FVec Ideal S1x2048x1x64 .f32 :=
  let even := Host.slice S1x2048x1x32 ![0, 0, 0, 0] ![1, 1, 1, 2] a slicesBy_S1x2048x1x64_S1x2048x1x32_0s1_0s1_0s1_0s2
  let odd := Host.slice S1x2048x1x32 ![0, 0, 0, 1] ![1, 1, 1, 2] a slicesBy_S1x2048x1x64_S1x2048x1x32_0s1_0s1_0s1_1s2
  let spread := fun y : FVec Ideal S2048x32 .f32 => broadcastInDim S1x2048x1x32 ![1, 3] bcast_S2048x32_S1x2048x1x32_1_3 y
  let last := fun y : FVec Ideal S1x2048x1x32 .f32 =>
    broadcastInDim S1x2048x1x32x1 ![0, 1, 2, 3] bcast_S1x2048x1x32_S1x2048x1x32x1_0_1_2_3 y
  shapeCast _ (concatenate S1x2048x1x32x2 4
    [⟨S1x2048x1x32x1, last (subf (mulf even (spread cos)) (mulf odd (spread sin)))⟩,
      ⟨S1x2048x1x32x1, last (addf (mulf even (spread sin)) (mulf odd (spread cos)))⟩]
    concatenates_S1x2048x1x32x1_S1x2048x1x32x1_S1x2048x1x32x2_d4) shapeCasts_S1x2048x1x32x2_S1x2048x1x64

/-- The rotated keys. -/
def rotatedKeys : FVec Ideal S1x2048x128 .f32 :=
  concatenate S1x2048x128 2
    [⟨S1x2048x64, shapeCast _ (turnKeys cos sin (broadcastInDim S1x2048x1x64 ![0, 1, 3] bcast_S1x2048x64_S1x2048x1x64_0_1_3
        (extractStridedSlice S1x2048x64 ![0, 0, 0] (normalized x wk g h) slices_S1x2048x128_S1x2048x64_0_0_0)))
        shapeCasts_S1x2048x1x64_S1x2048x64⟩,
      ⟨S1x2048x64, extractStridedSlice S1x2048x64 ![0, 0, 64] (normalized x wk g h) slices_S1x2048x128_S1x2048x64_0_0_64⟩]
    concatenates_S1x2048x64_S1x2048x64_S1x2048x128_d2

/-- The weights of the heads, before the second scale. -/
def headWeights : FVec Ideal S1x2048x16 .f32 :=
  mulf (Host.dotGeneral dot_S1x2048x2048_S2048x16_S1x2048x16_2_0_01_1_n_n none x
    (transpose S2048x16 [1, 0] wt transposes_S16x2048_S2048x16_1_0))
    (broadcastInDim S1x2048x16 ![] bcast_S_S1x2048x16 (constant S_ .f32 0x3E800000#32))

end Reference

end Cert.Hadamard

namespace Cert.Hadamard

open Idealize.ShloMosaic Idealize.ShloMosaic.TcCoe StableHlo Cert.KernelHIdeal Cert.KernelHIdeal.Gen

/-- The two joins of the queries, as functions of their parts. -/
def joinPairs (a b : FVec Ideal S1x2048x16x32x1 .f32) : FVec Ideal S1x2048x16x32x2 .f32 :=
  concatenate S1x2048x16x32x2 4 [⟨S1x2048x16x32x1, a⟩, ⟨S1x2048x16x32x1, b⟩] concatenates_S1x2048x16x32x1_S1x2048x16x32x1_S1x2048x16x32x2_d4
def joinHalves (a b : FVec Ideal S1x2048x16x64 .f32) : FVec Ideal S1x2048x16x128 .f32 :=
  concatenate S1x2048x16x128 3 [⟨S1x2048x16x64, a⟩, ⟨S1x2048x16x64, b⟩] concatenates_S1x2048x16x64_S1x2048x16x64_S1x2048x16x128_d3

theorem joinPairs_eq : (fun a b : FVec Ideal S1x2048x16x32x1 .f32 => concatenate S1x2048x16x32x2 4
    [⟨S1x2048x16x32x1, a⟩, ⟨S1x2048x16x32x1, b⟩] concatenates_S1x2048x16x32x1_S1x2048x16x32x1_S1x2048x16x32x2_d4) = joinPairs := rfl
theorem joinHalves_eq : (fun a b : FVec Ideal S1x2048x16x64 .f32 => concatenate S1x2048x16x128 3
    [⟨S1x2048x16x64, a⟩, ⟨S1x2048x16x64, b⟩] concatenates_S1x2048x16x64_S1x2048x16x64_S1x2048x16x128_d3) = joinHalves := rfl

variable (m : (ℓ : Loc nD τ sig) → Buf (Elt Ideal) ℓ) (c : Dev nD)

/-- The argument arrays of the program. -/
abbrev a0 : FVec Ideal S1x2048x2048 .f32 := m ((c : Thread nD τ).loc main_arg0)
abbrev a1 : FVec Ideal S1x2048x1536 .f32 := m ((c : Thread nD τ).loc main_arg1)
abbrev a2 : FVec Ideal S2048x1536 .f32 := m ((c : Thread nD τ).loc main_arg2)
abbrev a3 : FVec Ideal S128x2048 .f32 := m ((c : Thread nD τ).loc main_arg3)
abbrev a4 : FVec Ideal S128 .f32 := m ((c : Thread nD τ).loc main_arg4)
abbrev a5 : FVec Ideal S128 .f32 := m ((c : Thread nD τ).loc main_arg5)
abbrev a6 : FVec Ideal S16x2048 .f32 := m ((c : Thread nD τ).loc main_arg6)
abbrev a7 : FVec Ideal S2048x32 .f32 := m ((c : Thread nD τ).loc main_arg7)
abbrev a8 : FVec Ideal S2048x32 .f32 := m ((c : Thread nD τ).loc main_arg8)

theorem host_queries : (V m c main_v70 : FVec Ideal S2048x2048 .f32)
    = shapeCast S2048x2048 (rotatedQueries (a1 m c) (a2 m c) (a7 m c) (a8 m c)) shapeCasts_S1x2048x16x128_S2048x2048 := by
  simp only [V, hostOps0, hostOps0_1, hostOps0_2, List.flatten_cons, List.flatten_nil, List.cons_append, List.nil_append, List.append_nil,
    TRef.binary, TRef.nullary, TRef.ternary, TRef.unary, TRef.toBuf, TRef.ofBuf, cast_eq]
  rw [joinPairs_eq, joinHalves_eq]
  after_results_simp <;> rfl

theorem host_keys : (V m c main_v71 : FVec Ideal S2048x128 .f32)
    = shapeCast S2048x128 (rotatedKeys (a0 m c) (a3 m c) (a4 m c) (a5 m c) (a7 m c) (a8 m c)) shapeCasts_S1x2048x128_S2048x128 := by
  simp only [V, hostOps0, hostOps0_1, hostOps0_2, List.flatten_cons, List.flatten_nil, List.cons_append, List.nil_append, List.append_nil,
    TRef.binary, TRef.nullary, TRef.ternary, TRef.unary, TRef.toBuf, TRef.ofBuf, cast_eq]
  after_results_simp <;> rfl

theorem host_weights : (V m c main_v69 : FVec Ideal S2048x16 .f32)
    = mulf (shapeCast S2048x16 (headWeights (a0 m c) (a6 m c)) shapeCasts_S1x2048x16_S2048x16)
      (broadcastInDim S2048x16 ![] bcast_S_S2048x16 (constant S_ .f32 0x3DB504F3#32)) := by
  simp only [V, hostOps0, hostOps0_1, hostOps0_2, List.flatten_cons, List.flatten_nil, List.cons_append, List.nil_append, List.append_nil,
    TRef.binary, TRef.nullary, TRef.ternary, TRef.unary, TRef.toBuf, TRef.ofBuf, cast_eq]
  after_results_simp <;> rfl

end Cert.Hadamard
-- ==== Proof.Outputs.lean ====
module

public import proofs.«01_k».proof.Proof.Hadamard
public import proofs.«01_k».proof.Proof.Matrix
public import proofs.«01_k».proof.Proof.Rotated

@[expose] public section

/-! # The rotated queries, keys and weights of the program and of the reference -/

noncomputable section

namespace Cert.Hadamard

open Idealize.ShloMosaic hiding ix2 ix3 ix4
open Idealize.ShloMosaic.TcCoe Idealize.SL.Sem StableHlo Cert.KernelHIdeal Cert.KernelHIdeal.Gen
open Idealize.ShloMosaic.ValueIdx

variable (m : (ℓ : Loc nD τ sig) → Buf (Elt Ideal) ℓ) (c : Dev nD)

theorem host_matrix (i : S128x128.Idx) : (V m c main_cst : FVec Ideal S128x128 .bf16) i = Ideal.ofBits .bf16 (lit0 (S128x128.rowMajor i)) := by
  have h : (V m c main_cst : FVec Ideal S128x128 .bf16) = fun i => FloatOps.ofBits (F := Ideal) .bf16 (lit0 (S128x128.rowMajor i)) := by
    simp only [V, hostOps0, hostOps0_1, hostOps0_2, List.flatten_cons, List.flatten_nil, List.cons_append, List.nil_append, List.append_nil,
      TRef.binary, TRef.nullary, TRef.ternary, TRef.unary, TRef.toBuf, TRef.ofBuf, cast_eq]
    after_results_simp <;> rfl
  exact congrFun h i

/-- The second scale of the weights may come after the change of shape or before it. -/
theorem scaled_weights (w : FVec Ideal S1x2048x16 .f32) :
    mulf (shapeCast S2048x16 w shapeCasts_S1x2048x16_S2048x16) (broadcastInDim S2048x16 ![] bcast_S_S2048x16 (constant S_ .f32 0x3DB504F3#32))
      = shapeCast S2048x16 (mulf w (broadcastInDim S1x2048x16 ![] bcast_S_S1x2048x16 (constant S_ .f32 0x3DB504F3#32))) shapeCasts_S1x2048x16_S2048x16 := rfl

/-- The reference's matrix. -/
def matrix : FVec Ideal S128x128 .f32 := fun i => FloatOps.ofBits (F := Ideal) .f32 (Cert.ReferenceHIdeal.lit0 (S128x128.rowMajor i))

theorem same_entries (e d : Fin 128) : (V m c main_cst : FVec Ideal S128x128 .bf16) (ix2 e d) = matrix (ix2 e d) :=
  (host_matrix m c (ix2 e d)).trans (same_matrix _)

/-- The three arrays the program leaves. -/
abbrev outQueries : FVec Ideal S2048x2048 .bf16 := queries (rotatedQueries (a1 m c) (a2 m c) (a7 m c) (a8 m c)) matrix
abbrev outKeys : FVec Ideal S2048x128 .bf16 := keys (rotatedKeys (a0 m c) (a3 m c) (a4 m c) (a5 m c) (a7 m c) (a8 m c)) matrix
abbrev outWeights : FVec Ideal S2048x16 .f32 := shapeCast S2048x16 (mulf (headWeights (a0 m c) (a6 m c))
  (broadcastInDim S1x2048x16 ![] bcast_S_S1x2048x16 (constant S_ .f32 0x3DB504F3#32))) shapeCasts_S1x2048x16_S2048x16

theorem first : (dats m 0 c).arrAt 3 cfg0.N = outQueries m c := first_of m c _ _ (host_queries m c) (same_entries m c)

theorem second : (dats m 0 c).arrAt 4 cfg0.N = outKeys m c := second_of m c _ _ (host_keys m c) (same_entries m c)

theorem third : (V m c main_v69 : FVec Ideal S2048x16 .f32) = outWeights m c := (host_weights m c).trans (scaled_weights _)

/-- The run of the program, with its three arrays and its arguments. -/
theorem program_run (ρ : Dev nD → PrngReg) :
    θ_run defs (onTc (τ := τ) (main (F := Ideal))) ⟨m, fun _ => 0, ρ⟩ fun r => ∀ c : Dev nD,
      r.2.mem ((c : Thread nD τ).loc main_v72_0) = outQueries m c
      ∧ r.2.mem ((c : Thread nD τ).loc main_v72_1) = outKeys m c
      ∧ r.2.mem ((c : Thread nD τ).loc main_v69) = outWeights m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(Value.post3 m r h c).trans (first m c), (Value.post4 m r h c).trans (second m c),
      ((h c).2 main_v69 (Pipeline.mem_restRefs_of main_v69 (by decide) (by decide))).trans (third m c),
      Value.kept_main_arg0 m r h c, Value.kept_main_arg1 m r h c, Value.kept_main_arg2 m r h c, Value.kept_main_arg3 m r h c,
      Value.kept_main_arg4 m r h c, Value.kept_main_arg5 m r h c, Value.kept_main_arg6 m r h c, Value.kept_main_arg7 m r h c,
      Value.kept_main_arg8 m r h c⟩)
    (run_main m ρ)

end Cert.Hadamard

namespace Cert.Hadamard

open Idealize.ShloMosaic Idealize.ShloMosaic.TcCoe Idealize.SL.Sem Cert.ReferenceHIdeal Cert.ReferenceHIdeal.Gen

variable (m : (ℓ : Loc nD τ sig) → Buf (Elt Ideal) ℓ)

/-- The run of the reference, with its three arrays and its arguments. -/
theorem reference_run (ρ : Dev nD → PrngReg) :
    θ_run defs (onTc (τ := τ) (main (F := Ideal))) ⟨m, fun _ => 0, ρ⟩ fun r => ∀ c : Dev nD,
      r.2.mem ((c : Thread nD τ).loc main_v76) = queries (rotatedQueries (m ((c : Thread nD τ).loc main_arg1))
        (m ((c : Thread nD τ).loc main_arg2)) (m ((c : Thread nD τ).loc main_arg7)) (m ((c : Thread nD τ).loc main_arg8))) matrix
      ∧ r.2.mem ((c : Thread nD τ).loc main_v78) = keys (rotatedKeys (m ((c : Thread nD τ).loc main_arg0))
        (m ((c : Thread nD τ).loc main_arg3)) (m ((c : Thread nD τ).loc main_arg4)) (m ((c : Thread nD τ).loc main_arg5))
        (m ((c : Thread nD τ).loc main_arg7)) (m ((c : Thread nD τ).loc main_arg8))) matrix
      ∧ r.2.mem ((c : Thread nD τ).loc main_v79) = shapeCast S2048x16 (mulf (headWeights (m ((c : Thread nD τ).loc main_arg0))
        (m ((c : Thread nD τ).loc main_arg6))) (broadcastInDim S1x2048x16 ![] bcast_S_S1x2048x16 (constant S_ .f32 0x3DB504F3#32)))
        shapeCasts_S1x2048x16_S2048x16
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1, (h c).2.1, (h c).2.2⟩) (Cert.ReferenceHIdeal.Value.run m ρ)

end Cert.Hadamard
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel2Ideal.Value
public import proofs.«01_k».proof.Proof.Gen.KernelH
public import proofs.«01_k».proof.Proof.Gen.KernelH.Skeleton
public import proofs.«01_k».proof.Proof.Gen.KernelH.Launch
public import proofs.«01_k».proof.Proof.Gen.KernelH.Points
public import proofs.«01_k».proof.Proof.Gen.KernelH.Frame
public import proofs.«01_k».proof.Proof.Gen.KernelHIdeal
public import proofs.«01_k».proof.Proof.Gen.KernelHIdeal.Skeleton
public import proofs.«01_k».proof.Proof.Gen.KernelHIdeal.Launch
public import proofs.«01_k».proof.Proof.Gen.KernelHIdeal.Points
public import proofs.«01_k».proof.Proof.Gen.KernelHIdeal.Frame
public import proofs.«01_k».proof.Proof.Gen.ReferenceHIdeal
public import proofs.«01_k».proof.Proof.Gen.ReferenceHIdeal.Run
public import proofs.«01_k».proof.Proof.Gen.KernelHIdeal.Value
public import proofs.«01_k».proof.Proof.Arrays
public import proofs.«01_k».proof.Proof.Outputs
public import Idealize.ShloMosaic.Adequacy
public import Idealize.ShloMosaic.Init

@[expose] public section

noncomputable section

namespace Cert.Proof

open Idealize.ShloMosaic Idealize.ShloMosaic.TcCoe Idealize.SL.Sem

/-- The side conditions the precondition's function states. -/
instance pre_facts : Cert.Pre_scores_separate_2.Facts := by constructor <;> decide

theorem kernel_frame : Cert.quiescent_Kernel2 := fun m g _ => Cert.Kernel2.Gen.frame m g

theorem ideal_frame : Cert.quiescent_Kernel2Ideal := fun m g _ => Cert.Kernel2Ideal.Gen.frame m g

theorem reference_frame : Cert.quiescent_Reference2Ideal := fun m ρ _ =>
  (θ_run Cert.Reference2Ideal.defs _ _).mono
    (fun r h => ⟨fun c => ⟨(h c).2.2.1, (h c).2.2.2.1, (h c).2.2.2.2⟩, sem_eq_zero_of_no_sems (by decide) r.2⟩)
    (Cert.Reference2Ideal.Value.run m ρ)

/-- The program's scores and columns are the reference's. -/
theorem algebraic : Cert.algebraic_Kernel2Ideal_Reference2Ideal_pre_scores_separate_2 := by
  intro m g m' g' hp ha
  have hs : ∀ c, ∀ R : Fin 512, Cert.Body.Separate (Cert.Arrays.q m c) (Cert.Arrays.k m c) (Cert.Arrays.w m c) R := fun c R => by
    obtain ⟨h1, h2, h3⟩ := hp c
    obtain ⟨s1, s2, s3⟩ := Cert.Ref.separate_row _ _ _ h1 h2 h3 R
    exact ⟨s1, s2, s3⟩
  refine ⟨fun c => shapeCast ⟨2, ![512, 512]⟩ (Cert.Arrays.top m c).1 Cert.Reference2Ideal.Gen.shapeCasts_S1x512x512_S512x512,
    fun c => shapeCast ⟨2, ![512, 512]⟩ (Cert.Arrays.top m c).2 Cert.Reference2Ideal.Gen.shapeCasts_S1x512x512_S512x512, ?_, ?_⟩
  · refine (θ_run _ _ _).mono (fun r h c => ?_) (Cert.Kernel2Ideal.Value.run_blocks m g)
    exact ⟨(h c).1.trans (Cert.Arrays.first m c (hs c)), (h c).2.1.trans (Cert.Arrays.second m c (hs c)), (h c).2.2⟩
  · refine (θ_run _ _ _).mono (fun r h c => ?_) (Cert.Reference2Ideal.Value.run m' g')
    obtain ⟨a0, a1, a2⟩ := ha c
    refine ⟨(h c).1.trans ?_, (h c).2.1.trans ?_, (h c).2.2⟩
    · rw [a0, a1, a2]; rfl
    · rw [a0, a1, a2]; rfl

theorem hadamard_frame : Cert.quiescent_KernelH := fun m g _ => Cert.KernelH.Gen.frame m g

theorem hadamard_ideal_frame : Cert.quiescent_KernelHIdeal := fun m g _ => Cert.KernelHIdeal.Gen.frame m g

theorem hadamard_reference_frame : Cert.quiescent_ReferenceHIdeal := fun m ρ _ =>
  (θ_run Cert.ReferenceHIdeal.defs _ _).mono
    (fun r h => ⟨fun c => (h c).2.2.2, sem_eq_zero_of_no_sems (by decide) r.2⟩)
    (Cert.ReferenceHIdeal.Value.run m ρ)

/-- The queries, the keys and the weights of the program are the reference's. -/
theorem hadamard_algebraic : Cert.algebraic_KernelHIdeal_ReferenceHIdeal := by
  intro m g m' g' _ ha
  refine ⟨fun c => Cert.Hadamard.outQueries m c, fun c => Cert.Hadamard.outKeys m c, fun c => Cert.Hadamard.outWeights m c,
    Cert.Hadamard.program_run m g, ?_⟩
  refine (θ_run _ _ _).mono (fun r h c => ?_) (Cert.Hadamard.reference_run m' g')
  obtain ⟨e0, e1, e2, e3, e4, e5, e6, e7, e8⟩ := ha c
  refine ⟨(h c).1.trans ?_, (h c).2.1.trans ?_, (h c).2.2.1.trans ?_, (h c).2.2.2⟩
  · rw [e1, e2, e7, e8]
  · rw [e0, e3, e4, e5, e7, e8]
  · rw [e0, e6]

theorem claim : Cert.Claim := ⟨Cert.Kernel2.Gen.facts, Cert.Kernel2Ideal.Gen.facts, Cert.Reference2Ideal.Gen.facts, Cert.KernelH.Gen.facts,
  Cert.KernelHIdeal.Gen.facts, Cert.ReferenceHIdeal.Gen.facts, pre_facts, kernel_frame, ideal_frame, fun m g _ => Cert.Kernel2Ideal.Gen.frame m g,
  reference_frame, fun m g _ => reference_frame m g trivial, hadamard_frame, hadamard_ideal_frame, hadamard_reference_frame, trivial, algebraic,
  trivial, hadamard_algebraic⟩

end Cert.Proof

end
